-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_router_inputs_finite_KernelIdeal [hPre_router_inputs_finite_KernelIdeal : Cert.Pre_router_inputs_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_router_inputs_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_router_inputs_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_router_inputs_finite_ReferenceIdeal [hPre_router_inputs_finite_ReferenceIdeal : Cert.Pre_router_inputs_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_router_inputs_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_router_inputs_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_router_inputs_finite_KernelIdeal [hKernelIdeal : Cert.KernelIdeal.Facts] [hPre_router_inputs_finite_KernelIdeal : Cert.Pre_router_inputs_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_router_inputs_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_router_inputs_finite_ReferenceIdeal [hReferenceIdeal : Cert.ReferenceIdeal.Facts] [hPre_router_inputs_finite_ReferenceIdeal : Cert.Pre_router_inputs_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_router_inputs_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_router_inputs_finite_KernelIdeal [hKernelIdeal : Cert.KernelIdeal.Facts] [hReferenceIdeal : Cert.ReferenceIdeal.Facts] [hPre_router_inputs_finite_KernelIdeal : Cert.Pre_router_inputs_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_router_inputs_finite_KernelIdeal m →
    (∀ c : Dev Cert.KernelIdeal.nD,
      m ((c.tc : Thread Cert.KernelIdeal.nD Cert.KernelIdeal.τ).loc Cert.KernelIdeal.main_arg0) = Layout.block ⟨2, ![1024, 256]⟩ ⟨2, ![4096, 256]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![1024, 1]⟩ ⟨2, ![4096, 1]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![4, 256, 512]⟩ ⟨3, ![16, 256, 512]⟩ 0 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 512]⟩ ⟨2, ![4096, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v25) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_router_inputs_finite_KernelIdeal : Cert.Pre_router_inputs_finite_KernelIdeal.Facts) (hPre_router_inputs_finite_ReferenceIdeal : Cert.Pre_router_inputs_finite_ReferenceIdeal.Facts),
    quiescent_Kernel (hKernel := hKernel)
    ∧ quiescent_KernelIdeal (hKernelIdeal := hKernelIdeal)
    ∧ quiescent_KernelIdeal_pre_router_inputs_finite_KernelIdeal (hKernelIdeal := hKernelIdeal) (hPre_router_inputs_finite_KernelIdeal := hPre_router_inputs_finite_KernelIdeal)
    ∧ quiescent_ReferenceIdeal (hReferenceIdeal := hReferenceIdeal)
    ∧ quiescent_ReferenceIdeal_pre_router_inputs_finite_ReferenceIdeal (hReferenceIdeal := hReferenceIdeal) (hPre_router_inputs_finite_ReferenceIdeal := hPre_router_inputs_finite_ReferenceIdeal)
    ∧ preserves_Kernel_KernelIdeal
    ∧ algebraic_KernelIdeal_ReferenceIdeal_pre_router_inputs_finite_KernelIdeal (hKernelIdeal := hKernelIdeal) (hReferenceIdeal := hReferenceIdeal) (hPre_router_inputs_finite_KernelIdeal := hPre_router_inputs_finite_KernelIdeal)
-- ==== Pre_router_inputs_finite_KernelIdeal.lean ====
abbrev S1024x256 : Shape := ⟨2, ![1024, 256]⟩
abbrev S256x16 : Shape := ⟨2, ![256, 16]⟩
abbrev S1024x1 : Shape := ⟨2, ![1024, 1]⟩
abbrev S4x256x512 : Shape := ⟨3, ![4, 256, 512]⟩
abbrev S256x512 : Shape := ⟨2, ![256, 512]⟩
abbrev S_ : Shape := ⟨0, ![]⟩

class Facts : Prop where
  bcast_S_S1024x256 : S_.BroadcastsInDim S1024x256 (![] : Fin 0 → Fin S1024x256.rank)
  bcast_S_S256x16 : S_.BroadcastsInDim S256x16 (![] : Fin 0 → Fin S256x16.rank)

variable [Facts]

def fn {F : FTy → Type} [FloatOps F] (main_arg0 : FVec F S1024x256 .f32) (main_arg1 : FVec F S256x16 .f32) (main_arg2 : IVec S1024x1 32) (main_arg3 : FVec F S4x256x512 .f32) (main_arg4 : FVec F S256x512 .f32) : IVec S1024x256 1 × IVec S256x16 1 :=
  let main_v0 : FVec F S1024x256 .f32 := Host.absf main_arg0
  let main_cst : FVec F S_ .f32 := constant S_ .f32 0x7F800000#32
  let main_v1 : FVec F S1024x256 .f32 := broadcastInDim S1024x256 ![] bcast_S_S1024x256 main_cst
  let main_v2 : IVec S1024x256 1 := cmpf .olt main_v0 main_v1
  let main_v3 : FVec F S256x16 .f32 := Host.absf main_arg1
  let main_cst_0 : FVec F S_ .f32 := constant S_ .f32 0x7F800000#32
  let main_v4 : FVec F S256x16 .f32 := broadcastInDim S256x16 ![] bcast_S_S256x16 main_cst_0
  let main_v5 : IVec S256x16 1 := cmpf .olt main_v3 main_v4
  (main_v2, main_v5)
-- ==== Pre_router_inputs_finite_ReferenceIdeal.lean ====
abbrev S4096x256 : Shape := ⟨2, ![4096, 256]⟩
abbrev S256x16 : Shape := ⟨2, ![256, 16]⟩
abbrev S4096x1 : Shape := ⟨2, ![4096, 1]⟩
abbrev S16x256x512 : Shape := ⟨3, ![16, 256, 512]⟩
abbrev S256x512 : Shape := ⟨2, ![256, 512]⟩
abbrev S_ : Shape := ⟨0, ![]⟩

class Facts : Prop where
  bcast_S_S4096x256 : S_.BroadcastsInDim S4096x256 (![] : Fin 0 → Fin S4096x256.rank)
  bcast_S_S256x16 : S_.BroadcastsInDim S256x16 (![] : Fin 0 → Fin S256x16.rank)

variable [Facts]

def fn {F : FTy → Type} [FloatOps F] (main_arg0 : FVec F S4096x256 .f32) (main_arg1 : FVec F S256x16 .f32) (main_arg2 : IVec S4096x1 32) (main_arg3 : FVec F S16x256x512 .f32) (main_arg4 : FVec F S256x512 .f32) : IVec S4096x256 1 × IVec S256x16 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_v3 : FVec F S256x16 .f32 := Host.absf main_arg1
  let main_cst_0 : FVec F S_ .f32 := constant S_ .f32 0x7F800000#32
  let main_v4 : FVec F S256x16 .f32 := broadcastInDim S256x16 ![] bcast_S_S256x16 main_cst_0
  let main_v5 : IVec S256x16 1 := cmpf .olt main_v3 main_v4
  (main_v2, main_v5)
-- ==== Kernel.lean ====
abbrev S1024x256 : Shape := ⟨2, ![1024, 256]⟩
abbrev S256x16 : Shape := ⟨2, ![256, 16]⟩
abbrev S1024x1 : Shape := ⟨2, ![1024, 1]⟩
abbrev S4x256x512 : Shape := ⟨3, ![4, 256, 512]⟩
abbrev S256x512 : Shape := ⟨2, ![256, 512]⟩
abbrev S1024x512 : Shape := ⟨2, ![1024, 512]⟩
abbrev S4 : Shape := ⟨1, ![4]⟩
abbrev S2 : Shape := ⟨1, ![2]⟩
abbrev S1 : Shape := ⟨1, ![1]⟩
abbrev S_ : Shape := ⟨0, ![]⟩
abbrev S2x256x512 : Shape := ⟨3, ![2, 256, 512]⟩
abbrev S1024x16 : Shape := ⟨2, ![1024, 16]⟩
abbrev S1024 : Shape := ⟨1, ![1024]⟩
abbrev S1x256x512 : Shape := ⟨3, ![1, 256, 512]⟩

abbrev nBuf : Space → Nat
  | .hbm => 6
  | .vmem => 10
  | .smem => 0
  | _ => 0

abbrev bufTy : (tb : Table) → Fin (tcTables nBuf tb) → BufTy
  | .hbm, ⟨0, _⟩ => ⟨S1024x256, .f32⟩
  | .hbm, ⟨1, _⟩ => ⟨S256x16, .f32⟩
  | .hbm, ⟨2, _⟩ => ⟨S1024x1, .i32⟩
  | .hbm, ⟨3, _⟩ => ⟨S4x256x512, .f32⟩
  | .hbm, ⟨4, _⟩ => ⟨S256x512, .f32⟩
  | .hbm, ⟨5, _⟩ => ⟨S1024x512, .bf16⟩
  | .local _ .vmem, ⟨0, _⟩ => ⟨S4x256x512, .f32⟩
  | .local _ .vmem, ⟨1, _⟩ => ⟨S1024x512, .bf16⟩
  | .local _ .vmem, ⟨2, _⟩ => ⟨S4x256x512, .fp8e4m3⟩
  | .local _ .vmem, ⟨3, _⟩ => ⟨S4x256x512, .fp8e4m3⟩
  | .local _ .vmem, ⟨4, _⟩ => ⟨S4x256x512, .fp8e4m3⟩
  | .local _ .vmem, ⟨5, _⟩ => ⟨S4x256x512, .fp8e4m3⟩
  | .local _ .vmem, ⟨6, _⟩ => ⟨S1024x256, .f32⟩
  | .local _ .vmem, ⟨7, _⟩ => ⟨S256x16, .f32⟩
  | .local _ .vmem, ⟨8, _⟩ => ⟨S1024x1, .i32⟩
  | .local _ .vmem, ⟨9, _⟩ => ⟨S256x512, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_16 : BitVec 32 := 1#32
  let v34 : BitVec 32 := Scalar.muli v13 c1_i32_16
  let v35 : BitVec 32 := Scalar.addi c0_i32_17 v34
  v35.toNat
def k0_dev2 (d0 : Dev nD) : Nat :=
  let c0_i32_20 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_19 : BitVec 32 := 1#32
  let v36 : BitVec 32 := Scalar.muli v24 c1_i32_19
  let v37 : BitVec 32 := Scalar.addi c0_i32_20 v36
  v37.toNat
def k0_dev3 (d0 : Dev nD) : Nat :=
  let c0_i32_30 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_29 : BitVec 32 := 1#32
  let v46 : BitVec 32 := Scalar.muli v24 c1_i32_29
  let v47 : BitVec 32 := Scalar.addi c0_i32_30 v46
  v47.toNat
def k0_dev4 (d0 : Dev nD) : Nat :=
  let c0_i32_40 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_39 : BitVec 32 := 1#32
  let v54 : BitVec 32 := Scalar.muli v13 c1_i32_39
  let v55 : BitVec 32 := Scalar.addi c0_i32_40 v54
  v55.toNat
def k0_dev5 (d0 : Dev nD) : Nat :=
  let c0_i32_50 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_49 : BitVec 32 := 1#32
  let v62 : BitVec 32 := Scalar.muli v24 c1_i32_49
  let v63 : BitVec 32 := Scalar.addi c0_i32_50 v62
  v63.toNat
def k0_dev6 (d0 : Dev nD) : Nat :=
  let c0_i32_60 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_59 : BitVec 32 := 1#32
  let v70 : BitVec 32 := Scalar.muli v13 c1_i32_59
  let v71 : BitVec 32 := Scalar.addi c0_i32_60 v70
  v71.toNat
def k0_dev7 (d0 : Dev nD) : Nat :=
  let c0_i32_127 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_126 : BitVec 32 := 1#32
  let v184 : BitVec 32 := Scalar.muli v13 c1_i32_126
  let v185 : BitVec 32 := Scalar.addi c0_i32_127 v184
  v185.toNat
def k0_dev8 (d0 : Dev nD) : Nat :=
  let c0_i32_147 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_146 : BitVec 32 := 1#32
  let v198 : BitVec 32 := Scalar.muli v24 c1_i32_146
  let v199 : BitVec 32 := Scalar.addi c0_i32_147 v198
  v199.toNat
abbrev stage0_0 : Fin 1 → Memref sig .tc .vmem S4x256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x256 : Shape := ⟨2, ![4096, 256]⟩
abbrev S256x16 : Shape := ⟨2, ![256, 16]⟩
abbrev S4096x1 : Shape := ⟨2, ![4096, 1]⟩
abbrev S16x256x512 : Shape := ⟨3, ![16, 256, 512]⟩
abbrev S256x512 : Shape := ⟨2, ![256, 512]⟩
abbrev S4096x16 : Shape := ⟨2, ![4096, 16]⟩
abbrev S_ : Shape := ⟨0, ![]⟩
abbrev S4096 : Shape := ⟨1, ![4096]⟩
abbrev S4096x512 : Shape := ⟨2, ![4096, 512]⟩
abbrev S4096x1x1 : Shape := ⟨3, ![4096, 1, 1]⟩
abbrev S4096x256x512 : Shape := ⟨3, ![4096, 256, 512]⟩

abbrev nBuf : Space → Nat
  | .hbm => 47
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x16, .f32⟩
  | .hbm, ⟨2, _⟩ => ⟨S4096x1, .i32⟩
  | .hbm, ⟨3, _⟩ => ⟨S16x256x512, .f32⟩
  | .hbm, ⟨4, _⟩ => ⟨S256x512, .f32⟩
  | .hbm, ⟨5, _⟩ => ⟨S4096x16, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S4096x16, .f32⟩
  | .hbm, ⟨10, _⟩ => ⟨S4096x16, .f32⟩
  | .hbm, ⟨11, _⟩ => ⟨S4096x16, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S4096x16, .f32⟩
  | .hbm, ⟨16, _⟩ => ⟨S4096x16, .f32⟩
  | .hbm, ⟨17, _⟩ => ⟨S4096x512, .f32⟩
  | .hbm, ⟨18, _⟩ => ⟨S4096, .i32⟩
  | .hbm, ⟨19, _⟩ => ⟨S_, .i32⟩
  | .hbm, ⟨20, _⟩ => ⟨S4096x1, .i32⟩
  | .hbm, ⟨21, _⟩ => ⟨S4096x1, .i1⟩
  | .hbm, ⟨22, _⟩ => ⟨S_, .i32⟩
  | .hbm, ⟨23, _⟩ => ⟨S4096x1, .i32⟩
  | .hbm, ⟨24, _⟩ => ⟨S4096x1, .i32⟩
  | .hbm, ⟨25, _⟩ => ⟨S4096x1, .i32⟩
  | .hbm, ⟨26, _⟩ => ⟨S4096x1x1, .i32⟩
  | .hbm, ⟨27, _⟩ => ⟨S4096x1, .f32⟩
  | .hbm, ⟨28, _⟩ => ⟨S4096x1, .i32⟩
  | .hbm, ⟨29, _⟩ => ⟨S4096x256x512, .f32⟩
  | .hbm, ⟨30, _⟩ => ⟨S4096x512, .f32⟩
  | .hbm, ⟨31, _⟩ => ⟨S4096x512, .f32⟩
  | .hbm, ⟨32, _⟩ => ⟨S4096x512, .f32⟩
  | .hbm, ⟨33, _⟩ => ⟨S_, .i32⟩
  | .hbm, ⟨34, _⟩ => ⟨S4096x1, .i32⟩
  | .hbm, ⟨35, _⟩ => ⟨S4096x1, .i1⟩
  | .hbm, ⟨36, _⟩ => ⟨S_, .i32⟩
  | .hbm, ⟨37, _⟩ => ⟨S4096x1, .i32⟩
  | .hbm, ⟨38, _⟩ => ⟨S4096x1, .i1⟩
  | .hbm, ⟨39, _⟩ => ⟨S4096x1, .i1⟩
  | .hbm, ⟨40, _⟩ => ⟨S_, .f32⟩
  | .hbm, ⟨41, _⟩ => ⟨S_, .f32⟩
  | .hbm, ⟨42, _⟩ => ⟨S4096x512, .i1⟩
  | .hbm, ⟨43, _⟩ => ⟨S4096x512, .f32⟩
  | .hbm, ⟨44, _⟩ => ⟨S4096x512, .f32⟩
  | .hbm, ⟨45, _⟩ => ⟨S4096x512, .f32⟩
  | .hbm, ⟨46, _⟩ => ⟨S4096x512, .bf16⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c : Ref sig .tc := ⟨.hbm, 33, rfl⟩
abbrev main_v18 : Ref sig .tc := ⟨.hbm, 34, rfl⟩
abbrev main_v19 : Ref sig .tc := ⟨.hbm, 35, rfl⟩
abbrev main_c_1 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_2 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩

abbrev nD : Nat := 1
abbrev τ : Topo := Topo.v7x

variable {F : FTy → Type} [FloatOps F]
-- ==== Proof.Proto.lean ====
/-
# The protocol of the ring kernel

Four devices sit in a ring. Every device rounds its own four expert matrices to eight bits and shares them with the
other three: both halves go to both neighbours, and each neighbour forwards one half it received one step further, so
that the device opposite gets the two halves from the two sides. This module fixes the vocabulary of the proof:

* the ring and the semaphores of the kernel, as the cells of a rounds schedule with one round;
* the contents of the buffers: what a device stages, what it sends, what has landed where;
* the schedule: which payload each semaphore carries;
* what each device still owes its neighbours at each point, and why no wait closes a cycle;
* the run-time value of the result, as a composition of the kernel's pure steps.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.RingRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state of the rounds: duties are named by a `Bool`. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The ring -/

set_option backward.proofsInPublic true in
/-- The left neighbour. -/
def lft (c : Dev nD) : Dev nD := ⟨(c.val + 3) % 4, Nat.mod_lt _ (by decide)⟩
set_option backward.proofsInPublic true in
/-- The right neighbour. -/
def rgt (c : Dev nD) : Dev nD := ⟨(c.val + 1) % 4, Nat.mod_lt _ (by decide)⟩
set_option backward.proofsInPublic true in
/-- The device opposite. -/
def opp (c : Dev nD) : Dev nD := ⟨(c.val + 2) % 4, Nat.mod_lt _ (by decide)⟩

theorem lft_rgt (c : Dev nD) : lft (rgt c) = c := by revert c; decide
theorem rgt_lft (c : Dev nD) : rgt (lft c) = c := by revert c; decide
theorem rgt_rgt (c : Dev nD) : rgt (rgt c) = opp c := by revert c; decide
theorem lft_lft (c : Dev nD) : lft (lft c) = opp c := by revert c; decide
theorem opp_lft (c : Dev nD) : opp (lft c) = rgt c := by revert c; decide
theorem opp_rgt (c : Dev nD) : opp (rgt c) = lft c := by revert c; decide

theorem dev1_eq (c : Dev nD) : (⟨k0_dev1 c, k0_dev1_lt c⟩ : Dev nD) = lft c := Fin.ext (by revert c; decide +kernel)
theorem dev2_eq (c : Dev nD) : (⟨k0_dev2 c, k0_dev2_lt c⟩ : Dev nD) = rgt c := Fin.ext (by revert c; decide +kernel)
theorem dev3_eq (c : Dev nD) : (⟨k0_dev3 c, k0_dev3_lt c⟩ : Dev nD) = rgt c := Fin.ext (by revert c; decide +kernel)
theorem dev4_eq (c : Dev nD) : (⟨k0_dev4 c, k0_dev4_lt c⟩ : Dev nD) = lft c := Fin.ext (by revert c; decide +kernel)
theorem dev5_eq (c : Dev nD) : (⟨k0_dev5 c, k0_dev5_lt c⟩ : Dev nD) = rgt c := Fin.ext (by revert c; decide +kernel)
theorem dev6_eq (c : Dev nD) : (⟨k0_dev6 c, k0_dev6_lt c⟩ : Dev nD) = lft c := Fin.ext (by revert c; decide +kernel)
theorem dev7_eq (c : Dev nD) : (⟨k0_dev7 c, k0_dev7_lt c⟩ : Dev nD) = lft c := Fin.ext (by revert c; decide +kernel)
theorem dev8_eq (c : Dev nD) : (⟨k0_dev8 c, k0_dev8_lt c⟩ : Dev nD) = rgt c := Fin.ext (by revert c; decide +kernel)

/-! ## Memrefs and semaphores -/

/-- A device's own experts, in eight bits. -/
abbrev myM : Memref sig .tc .vmem S4x256x512 .fp8e4m3 := Memref.whole cc0_scratch0
/-- Where the left neighbour's experts land. -/
abbrev LM : Memref sig .tc .vmem S4x256x512 .fp8e4m3 := Memref.whole cc0_scratch1
/-- Where the right neighbour's experts land. -/
abbrev RM : Memref sig .tc .vmem S4x256x512 .fp8e4m3 := Memref.whole cc0_scratch2
/-- Where the opposite device's experts land. -/
abbrev OM : Memref sig .tc .vmem S4x256x512 .fp8e4m3 := Memref.whole cc0_scratch3

/-- The first two experts of a buffer of four. -/
abbrev lo (M : Memref sig .tc .vmem S4x256x512 .fp8e4m3) : Memref sig .tc .vmem S2x256x512 .fp8e4m3 :=
  M.slice (Rect.unit (s := S4x256x512) ![0, 0, 0] S2x256x512.size inb_S4x256x512_S2x256x512_0_0_0) (fun _ => rfl)
/-- The last two experts of a buffer of four. -/
abbrev hi (M : Memref sig .tc .vmem S4x256x512 .fp8e4m3) : Memref sig .tc .vmem S2x256x512 .fp8e4m3 :=
  M.slice (Rect.unit (s := S4x256x512) ![2, 0, 0] S2x256x512.size inb_S4x256x512_S2x256x512_2_0_0) (fun _ => rfl)

/-- The entry barrier. -/
abbrev barS : Sems sig S_ := SemArray.scalar (sig.barrier 0 rfl)
/-- The DMA semaphores by number: 2–5 and 6–7 count departures, 8–11 and 12–13 arrivals, 14–17 the local copies. -/
abbrev dq (k : Fin 16) : DmaSem sig := ⟨k.val + 2, by have := k.isLt; show k.val + 2 < 18; omega⟩

theorem s14_0 : ((cc0_scratch8.slice (Rect.unit (s := S4) ![0] ![1] inb_S4_S1_0)).squeeze S_ squeezes_S1_S_).sem = dq 0 := rfl
theorem s14_1 : ((cc0_scratch8.slice (Rect.unit (s := S4) ![1] ![1] inb_S4_S1_1)).squeeze S_ squeezes_S1_S_).sem = dq 1 := rfl
theorem s14_2 : ((cc0_scratch8.slice (Rect.unit (s := S4) ![2] ![1] inb_S4_S1_2)).squeeze S_ squeezes_S1_S_).sem = dq 2 := rfl
theorem s14_3 : ((cc0_scratch8.slice (Rect.unit (s := S4) ![3] ![1] inb_S4_S1_3)).squeeze S_ squeezes_S1_S_).sem = dq 3 := rfl
theorem s15_0 : ((cc0_scratch9.slice (Rect.unit (s := S2) ![0] ![1] inb_S2_S1_0)).squeeze S_ squeezes_S1_S_).sem = dq 4 := rfl
theorem s15_1 : ((cc0_scratch9.slice (Rect.unit (s := S2) ![1] ![1] inb_S2_S1_1)).squeeze S_ squeezes_S1_S_).sem = dq 5 := rfl
theorem s16_0 : ((cc0_scratch10.slice (Rect.unit (s := S4) ![0] ![1] inb_S4_S1_0)).squeeze S_ squeezes_S1_S_).sem = dq 6 := rfl
theorem s16_1 : ((cc0_scratch10.slice (Rect.unit (s := S4) ![1] ![1] inb_S4_S1_1)).squeeze S_ squeezes_S1_S_).sem = dq 7 := rfl
theorem s16_2 : ((cc0_scratch10.slice (Rect.unit (s := S4) ![2] ![1] inb_S4_S1_2)).squeeze S_ squeezes_S1_S_).sem = dq 8 := rfl
theorem s16_3 : ((cc0_scratch10.slice (Rect.unit (s := S4) ![3] ![1] inb_S4_S1_3)).squeeze S_ squeezes_S1_S_).sem = dq 9 := rfl
theorem s17_0 : ((cc0_scratch11.slice (Rect.unit (s := S2) ![0] ![1] inb_S2_S1_0)).squeeze S_ squeezes_S1_S_).sem = dq 10 := rfl
theorem s17_1 : ((cc0_scratch11.slice (Rect.unit (s := S2) ![1] ![1] inb_S2_S1_1)).squeeze S_ squeezes_S1_S_).sem = dq 11 := rfl
theorem s18_0 : ((cc0_scratch12.slice (Rect.unit (s := S4) ![0] ![1] inb_S4_S1_0)).squeeze S_ squeezes_S1_S_).sem = dq 12 := rfl
theorem s18_1 : ((cc0_scratch12.slice (Rect.unit (s := S4) ![1] ![1] inb_S4_S1_1)).squeeze S_ squeezes_S1_S_).sem = dq 13 := rfl
theorem s18_2 : ((cc0_scratch12.slice (Rect.unit (s := S4) ![2] ![1] inb_S4_S1_2)).squeeze S_ squeezes_S1_S_).sem = dq 14 := rfl
theorem s18_3 : ((cc0_scratch12.slice (Rect.unit (s := S4) ![3] ![1] inb_S4_S1_3)).squeeze S_ squeezes_S1_S_).sem = dq 15 := rfl

abbrev barCell (c : Dev nD) : GSem nD τ sig := ((c : Thread nD τ), .reg barS.sem)
abbrev dCell (k : Fin 16) (c : Dev nD) : GSem nD τ sig := ((c : Thread nD τ), .dma (dq k))

/-- The DMA semaphores as the launch indexes them. -/
abbrev osem (k : Fin 16) : SemLoc sig := .dma (dq k)
/-- Every cell of the protocol: the barrier first, then the DMA semaphores. -/
abbrev ksem (k : Fin 17) : SemLoc sig := if h : k.val = 0 then .reg barS.sem else .dma (dq ⟨k.val - 1, by have := k.isLt; omega⟩)
abbrev kcell (ck : Dev nD × Fin 17) : GSem nD τ sig := ((ck.1 : Thread nD τ), ksem ck.2)

/-- What half a buffer of experts credits. -/
abbrev N : ℕ := (lo LM).view.dmaCredit
theorem N_pos : 0 < N := View.dmaCredit_pos _ (by decide)

/-- What a completed transfer credits, by its semaphore. -/
def amtN (q : ℕ) : ℕ := match q with
  | 14 => (Memref.whole cc0_scratch4 : Memref sig .tc .vmem S1024x256 .f32).view.dmaCredit
  | 15 => (Memref.whole cc0_scratch5 : Memref sig .tc .vmem S256x16 .f32).view.dmaCredit
  | 16 => (Memref.whole cc0_scratch6 : Memref sig .tc .vmem S1024x1 .i32).view.dmaCredit
  | 17 => (Memref.whole cc0_scratch7 : Memref sig .tc .vmem S256x512 .f32).view.dmaCredit
  | _ => N
theorem amtN_pos (q : ℕ) : 0 < amtN q := by
  unfold amtN
  split
  · exact View.dmaCredit_pos _ (by decide)
  · exact View.dmaCredit_pos _ (by decide)
  · exact View.dmaCredit_pos _ (by decide)
  · exact View.dmaCredit_pos _ (by decide)
  · exact N_pos

/-! ## Contents -/

variable (m : (ℓ : Loc nD τ sig) → Buf (Elt F) ℓ) (ρ : Dev nD → PrngReg)

/-- The memory a run starts from, every semaphore at zero. -/
def s₀ : MemSt nD τ sig (Elt F) := ⟨m, fun _ => 0, ρ⟩

/-- A device's experts as staged for the kernel. -/
def wstg (c : Dev nD) : (cc0_stg0_0 : Ref sig .tc).ty.Contents (Elt F) :=
  (win0_0.blk (0 : Fin 1)).view.read (Elt F) ((s₀ m ρ).mem ((c : Thread nD τ).loc main_arg3))

/-- A device's experts in eight bits. -/
def mygC (c : Dev nD) : S4x256x512.Idx → Elt F .fp8e4m3 := k0_pay2 (wstg m ρ c)

/-- Half a buffer, owned by device `c` at a share, with contents `f`. -/
def hp (M : Memref sig .tc .vmem S2x256x512 .fp8e4m3) (q : PosShare TreeShare) (c : Dev nD)
    (f : Buf (Elt F) (M.view.loc (c : Thread nD τ))) : sProp 𝕄 :=
  M.view.loc (c : Thread nD τ) ↦[M.view.set]{q} f

omit [FloatOps F] in
instance hp_storable (M) (q) (c : Dev nD) (f) : BI.Storable (upEmb : UEmb _ 𝕄) (hp (F := F) M q c f) := by unfold hp; infer_instance

/-- A buffer owned whole by device `c`. -/
def wp' (b : Ref sig .tc) (c : Dev nD) (f : Buf (Elt F) ((c : Thread nD τ).loc b)) : sProp 𝕄 :=
  ((c : Thread nD τ).loc b) ↦{fullShare} f

omit [FloatOps F] in
instance wp'_storable (b) (c : Dev nD) (f) : BI.Storable (upEmb : UEmb _ 𝕄) (wp' (F := F) b c f) := by unfold wp'; infer_instance

/-- A device's rows, router, routing choices and shared weights, as it reads them. -/
def xC (c : Dev nD) : S1024x256.Idx → Elt F .f32 := m ((c : Thread nD τ).loc main_arg0)
def rwC (c : Dev nD) : S256x16.Idx → Elt F .f32 := m ((c : Thread nD τ).loc main_arg1)
def ixC (c : Dev nD) : S1024x1.Idx → Elt F .i32 := m ((c : Thread nD τ).loc main_arg2)
def swC (c : Dev nD) : S256x512.Idx → Elt F .f32 := m ((c : Thread nD τ).loc main_arg4)

/-! ## The schedule -/

/-- The barrier's payloads: the right neighbour hands over the buffers in which `c`'s experts will land there, -/
def barPayT (c : Dev nD) : sProp 𝕄 :=
  iprop((∃ f, hp (hi LM) fullShare (rgt c) f) ∗ (∃ f, hp (lo LM) fullShare (rgt c) f) ∗ (∃ f, hp (hi OM) fullShare (rgt c) f))
/-- and so does the left one. -/
def barPayF (c : Dev nD) : sProp 𝕄 :=
  iprop((∃ f, hp (lo RM) fullShare (lft c) f) ∗ (∃ f, hp (hi RM) fullShare (lft c) f) ∗ (∃ f, hp (lo OM) fullShare (lft c) f))

/-- What a completed transfer hands to the device that waits for it, by its semaphore: a departure the half it read,
    an arrival the half it filled, a local copy both its buffers. -/
def dmaPay (c : Dev nD) (q : ℕ) : sProp 𝕄 := match q with
  | 2 => hp (hi myM) fullShare.left c (mygC m ρ c)
  | 3 => hp (lo myM) fullShare.left c (mygC m ρ c)
  | 4 => hp (lo myM) fullShare.right c (mygC m ρ c)
  | 5 => hp (hi myM) fullShare.right c (mygC m ρ c)
  | 6 => hp (lo RM) fullShare.left c (mygC m ρ (rgt c))
  | 7 => hp (hi LM) fullShare.left c (mygC m ρ (lft c))
  | 8 => hp (hi LM) fullShare c (mygC m ρ (lft c))
  | 9 => hp (lo LM) fullShare c (mygC m ρ (lft c))
  | 10 => hp (lo RM) fullShare c (mygC m ρ (rgt c))
  | 11 => hp (hi RM) fullShare c (mygC m ρ (rgt c))
  | 12 => hp (lo OM) fullShare c (mygC m ρ (opp c))
  | 13 => hp (hi OM) fullShare c (mygC m ρ (opp c))
  | 14 => iprop(wp' main_arg0 c (m ((c : Thread nD τ).loc main_arg0)) ∗ wp' cc0_scratch4 c (xC m c))
  | 15 => iprop(wp' main_arg1 c (m ((c : Thread nD τ).loc main_arg1)) ∗ wp' cc0_scratch5 c (rwC m c))
  | 16 => iprop(wp' main_arg2 c (m ((c : Thread nD τ).loc main_arg2)) ∗ wp' cc0_scratch6 c (ixC m c))
  | 17 => iprop(wp' main_arg4 c (m ((c : Thread nD τ).loc main_arg4)) ∗ wp' cc0_scratch7 c (swC m c))
  | _ => iprop(emp)

instance dmaPay_storable (c : Dev nD) (q : ℕ) : BI.Storable (upEmb : UEmb _ 𝕄) (dmaPay (F := F) m ρ c q) := by
  unfold dmaPay; split <;> infer_instance

def payOf (g : GSem nD τ sig) (d : Bool) : sProp 𝕄 := match g.2 with
  | .reg _ => if d then barPayT g.1.1 else barPayF g.1.1
  | .dma q => dmaPay m ρ g.1.1 q.val

/-- One round: the barrier has two duties, one for either neighbour, every DMA semaphore one. -/
def ringRd : Rounds.Schedule (GSem nD τ sig) Bool 𝕄 where
  duties g r := if r = 0 then (match g.2 with | .reg _ => Finset.univ | .dma _ => {false}) else ∅
  unitless _ := False
  amount g _ _ := match g.2 with | .reg _ => 1 | .dma q => amtN q.val
  payload g _ d := payOf m ρ g d
  amount_pos g _ _ _ := by
    rcases g with ⟨t, q | q⟩
    · exact Nat.one_pos
    · exact amtN_pos _

instance ringRd_payload_storable (g : GSem nD τ sig) (r : ℕ) (d : Bool) :
    BI.Storable (upEmb : UEmb _ 𝕄) ((ringRd (F := F) m ρ).payload g r d) := by
  show BI.Storable upEmb (payOf m ρ g d)
  rcases g with ⟨t, q | q⟩
  · show BI.Storable upEmb (if d then barPayT t.1 else barPayF t.1)
    unfold barPayT barPayF
    split <;> infer_instance
  · show BI.Storable upEmb (dmaPay m ρ t.1 q.val)
    infer_instance

section Sched
variable (c : Dev nD)

theorem duties_bar : (ringRd (F := F) m ρ).duties (barCell c) 0 = Finset.univ := rfl
theorem duties_dma (k : Fin 16) : (ringRd (F := F) m ρ).duties (dCell k c) 0 = {false} := rfl
theorem duties_later (g : GSem nD τ sig) : ∀ r, 1 ≤ r → (ringRd (F := F) m ρ).duties g r = ∅ :=
  fun r hr => if_neg (by omega)
theorem expect_bar : (ringRd (F := F) m ρ).expect (barCell c) 0 = 2 := by
  unfold Schedule.expect Schedule.amountOf
  rw [duties_bar]; rfl
theorem expect_dma (k : Fin 16) : (ringRd (F := F) m ρ).expect (dCell k c) 0 = amtN (k.val + 2) := by
  unfold Schedule.expect Schedule.amountOf
  rw [duties_dma, Finset.sum_singleton]; rfl

theorem rest_bar : bigSep ((ringRd (F := F) m ρ).duties (barCell c) 0 \ ∅) (fun d => (ringRd (F := F) m ρ).payload (barCell c) 0 d)
    = iprop(barPayF c ∗ barPayT c) := by
  rw [Finset.sdiff_empty, duties_bar, bigSep_univ_eq_bigSepL [false, true] (by decide) (by decide), bigSepL_cons_cons, bigSepL_singleton]
  rfl
theorem rest_dma (k : Fin 16) : bigSep ((ringRd (F := F) m ρ).duties (dCell k c) 0 \ ∅) (fun d => (ringRd (F := F) m ρ).payload (dCell k c) 0 d)
    = dmaPay m ρ c (k.val + 2) := by
  rw [Finset.sdiff_empty, duties_dma, bigSep_singleton]
  rfl

end Sched

/-! ## What each device owes; the levels -/

/-- A debt: units some semaphore of some device is still to receive. -/
abbrev Debt : Type := Dev nD × SemLoc sig × ℕ

def owe : List Debt → CellTallies nD τ sig Unit
  | [] => 0
  | x :: l => owe l + tallyAt ((x.1 : Thread nD τ), x.2.1) () x.2.2

/-- Device `c`'s debts in the order it pays them: the two barrier signals, the four sends to the neighbours, the two
    forwards. -/
abbrev fwd2 (c : Dev nD) : List Debt := [(rgt c, .dma (dq 11), N)]
abbrev fwd1 (c : Dev nD) : List Debt := (lft c, .dma (dq 10), N) :: fwd2 c
abbrev snd4 (c : Dev nD) : List Debt := (lft c, .dma (dq 9), N) :: fwd1 c
abbrev snd3 (c : Dev nD) : List Debt := (rgt c, .dma (dq 7), N) :: snd4 c
abbrev snd2 (c : Dev nD) : List Debt := (lft c, .dma (dq 8), N) :: snd3 c
abbrev snd1 (c : Dev nD) : List Debt := (rgt c, .dma (dq 6), N) :: snd2 c
abbrev sig2 (c : Dev nD) : List Debt := (rgt c, .reg barS.sem, 1) :: snd1 c
abbrev sig1 (c : Dev nD) : List Debt := (lft c, .reg barS.sem, 1) :: sig2 c

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- The barrier is waited for first, then the neighbours' experts, then the forwarded ones; what is only waited for by
    the device that started it comes lowest. -/
def slv (s : SemLoc sig) : ℕ := match s with
  | .reg _ => 1
  | .dma q => if q.val < 8 then 0 else if q.val < 12 then 2 else if q.val < 14 then 3 else 0
def lv (g : GSem nD τ sig) (_ : Unit) : ℕ := slv g.2

theorem owe_pos {l : List Debt} {g : GSem nD τ sig} {u : Unit} (h : 0 < owe l g u) :
    ∃ x ∈ l, g = ((x.1 : Thread nD τ), x.2.1) := by
  induction l with
  | nil => exact absurd h (Nat.lt_irrefl 0)
  | cons x l ih =>
    unfold owe at h
    rw [Pi.add_apply, Finsupp.add_apply, tallyAt_apply] at h
    by_cases hx : g = ((x.1 : Thread nD τ), x.2.1)
    · exact ⟨x, List.mem_cons_self, hx⟩
    · rw [if_neg (fun h' => hx h'.1), Nat.add_zero] at h
      obtain ⟨y, hy, e⟩ := ih h
      exact ⟨y, List.mem_cons_of_mem _ hy, e⟩

/-- Every debt in the list lies above level `n`. -/
def above (n : ℕ) (l : List Debt) : Prop := ∀ x ∈ l, n < slv x.2.1

omit [FloatOps F] in
/-- A device may wait on a semaphore that lies below all it owes. -/
theorem mayWait (c : Dev nD) (sm : SemLoc sig) (l : List Debt) (h : above (slv sm) l) :
    (levAts L lv : sProp 𝕄) ⊢ MayWait (c : Thread nD τ) sm () (owe l) :=
  MayOwe.of_cut (L := L) (lev := lv) (slv sm)
    (fun p hp => by rw [Finset.mem_singleton.mp hp, L_tc]; exact Finset.mem_singleton_self _)
    (fun g u hg => by obtain ⟨x, -, rfl⟩ := owe_pos hg; exact Finset.mem_singleton_self _)
    (fun p hp => by rw [Finset.mem_singleton.mp hp]; exact Nat.le_refl _)
    (fun g u hg => by obtain ⟨x, hx, rfl⟩ := owe_pos hg; exact h x hx)

theorem above_nil (n : ℕ) : above n [] := fun x hx => absurd hx (by simp)
theorem above_cons {n : ℕ} {x : Debt} {l : List Debt} (hx : n < slv x.2.1) (hl : above n l) : above n (x :: l) :=
  fun y hy => by rcases List.mem_cons.mp hy with rfl | hy; exacts [hx, hl y hy]

theorem above_fwd2 (c : Dev nD) : above 2 (fwd2 c) := above_cons (show 2 < slv (.dma (dq 11)) by decide) (above_nil 2)
theorem above_fwd1 (c : Dev nD) : above 2 (fwd1 c) := above_cons (show 2 < slv (.dma (dq 10)) by decide) (above_fwd2 c)
theorem above_mono {n k : ℕ} (h : k ≤ n) {l : List Debt} (hl : above n l) : above k l := fun x hx => Nat.lt_of_le_of_lt h (hl x hx)
theorem above_snd1 (c : Dev nD) : above 1 (snd1 c) :=
  above_cons (show 1 < slv (.dma (dq 6)) by decide) (above_cons (show 1 < slv (.dma (dq 8)) by decide)
    (above_cons (show 1 < slv (.dma (dq 7)) by decide) (above_cons (show 1 < slv (.dma (dq 9)) by decide)
      (above_mono (by decide) (above_fwd1 c)))))
theorem above_sig1 (c : Dev nD) : above 0 (sig1 c) :=
  above_cons (show 0 < slv (.reg barS.sem) by decide) (above_cons (show 0 < slv (.reg barS.sem) by decide)
    (above_mono (by decide) (above_snd1 c)))

/-! ## The value of the result -/

/-- A load of half a buffer of experts. -/
def ldLo (f : S4x256x512.Idx → Elt F .fp8e4m3) : Vec F S2x256x512 .fp8e4m3 := fun i =>
  f ((Rect.unit (s := S4x256x512) ![0, 0, 0] S2x256x512.size inb_S4x256x512_S2x256x512_0_0_0).toLoadRect.idx i)
def ldHi (f : S4x256x512.Idx → Elt F .fp8e4m3) : Vec F S2x256x512 .fp8e4m3 := fun i =>
  f ((Rect.unit (s := S4x256x512) ![2, 0, 0] S2x256x512.size inb_S4x256x512_S2x256x512_2_0_0).toLoadRect.idx i)

section Value
variable (c : Dev nD)

def v87 := k0_pay3 (xC m c)
def v107 := k0_pay4 (xC m c) (rwC m c) (ixC m c)
def v110 := k0_pay5 (xC m c) (swC m c)
def v113 := k0_pay6 (wstg m ρ c)
def v120 := k0_pay7 (Dev.word c) (xC m c) (rwC m c) (ixC m c)
def v161 := k0_pay8 (Dev.word c) (v87 m c) (ixC m c) (v107 m c) (v110 m c) (v113 m ρ c) (v120 m c)
def v177 := k0_pay9 (v87 m c) (ixC m c) (v107 m c) (v113 m ρ c) (v161 m ρ c) (Scalar.addi (Scalar.muli (Dev.word c) 4#32) 0#32) 3#32
def v207 := k0_pay10 (ldLo (mygC m ρ (rgt c)))
def v223 := k0_pay11 (Dev.word (rgt c)) (v87 m c) (ixC m c) (v107 m c) (v177 m ρ c) (ldLo (mygC m ρ (rgt c)))
def v225 : BitVec 32 := Scalar.addi (Scalar.muli (Dev.word (rgt c)) 4#32) 0#32
def v241 := k0_pay12 (ldHi (mygC m ρ (lft c)))
def v257 := k0_pay13 (Dev.word (lft c)) (v87 m c) (ixC m c) (v107 m c) (v207 m ρ c) (v223 m ρ c) (v225 c) (ldHi (mygC m ρ (lft c)))
def v267 := k0_pay14 (Dev.word (lft c)) (ixC m c) (v107 m c)
def v281 := k0_pay15 (ldHi (mygC m ρ (rgt c)))
def v297 := k0_pay16 (Dev.word (rgt c)) (v87 m c) (ixC m c) (v107 m c) (v241 m ρ c) (v257 m ρ c) (v267 m c) (ldHi (mygC m ρ (rgt c)))
def v302 := k0_pay17 (F := F) (Dev.word (rgt c)) (ixC m c)
def v321 := k0_pay18 (ldLo (mygC m ρ (lft c)))
def v337 := k0_pay19 (Dev.word (lft c)) (v87 m c) (ixC m c) (v107 m c) (v281 m ρ c) (v297 m ρ c) (v302 m c) (Scalar.ofBits .f32 0x00000000#32)
  (ldLo (mygC m ρ (lft c)))
def v353 := k0_pay20 (v87 m c) (ixC m c) (v107 m c) (v321 m ρ c) (v337 m ρ c) (Scalar.muli (Dev.word (lft c)) 4#32) 0#32
def v372 := k0_pay21 (ldLo (mygC m ρ (opp c)))
def v404 := k0_pay22 (v87 m c) (ixC m c) (v107 m c) (v353 m ρ c) (Dev.word (opp c)) (v372 m ρ c) 4#32
def v444 := k0_pay23 (v87 m c) (ixC m c) (v107 m c) (Dev.word (opp c)) (v404 m ρ c) (ldHi (mygC m ρ (opp c)))
/-- What device `c` writes as its result. -/
def outC : (cc0_stg1_0 : Ref sig .tc).ty.Contents (Elt F) := k0_pay1 (v444 m ρ c)

end Value

end Cert.RingRun
-- ==== Proof.Steps.lean ====
/-
# The rules the body is run by

One lemma for every kind of step the kernel takes: the start of a local copy, a send of half a buffer to a neighbour,
a wait for a transfer (which also closes the semaphore, as every semaphore is waited for once), a load of half a
buffer. Each asks only for what the step touches, next to the records of the protocol's cells.
-/
module

public import proofs.«01_k».proof.Proof.Proto

@[expose] public section

noncomputable section

namespace Cert.RingRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The weakest precondition of a program of device `c`'s core. -/
abbrev run {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## The records of the cells -/

/-- Every cell's invariant, and that every cell has reached its only round. -/
def records (K : Dev nD × Fin 17 → ℕ) : sProp 𝕄 :=
  iprop((bigSep Finset.univ fun ck : Dev nD × Fin 17 => cellInv ER (ringRd m ρ) (K ck) (kcell ck))
    ∗ (bigSep Finset.univ fun ck : Dev nD × Fin 17 => reached ER (kcell ck) 0))
instance records_persistent (K : Dev nD × Fin 17 → ℕ) : BI.Persistent (records (F := F) m ρ K) := by unfold records; infer_instance

variable (K : Dev nD × Fin 17 → ℕ)

/-- The place of a DMA semaphore among the cells. -/
abbrev kd (k : Fin 16) : Fin 17 := ⟨k.val + 1, by have := k.isLt; omega⟩
theorem kcell_kd (k : Fin 16) (c : Dev nD) : kcell (c, kd k) = dCell k c := rfl

theorem inv_of' (ck : Dev nD × Fin 17) :
    (bigSep Finset.univ fun ck : Dev nD × Fin 17 => (cellInv ER (ringRd m ρ) (K ck) (kcell ck) : sProp 𝕄)) ⊢ cellInv ER (ringRd m ρ) (K ck) (kcell ck) :=
  bigSep_elim (Finset.mem_univ ck)
omit [FloatOps F] in
theorem reached_of' (ck : Dev nD × Fin 17) :
    (bigSep Finset.univ fun ck : Dev nD × Fin 17 => (reached ER (kcell ck) 0 : sProp 𝕄)) ⊢ reached ER (kcell ck) 0 :=
  bigSep_elim (Finset.mem_univ ck)
theorem inv_of (ck : Dev nD × Fin 17) : records m ρ K ⊢ cellInv ER (ringRd m ρ) (K ck) (kcell ck) := by
  unfold records
  iintro ⟨H, -⟩
  iapply (inv_of' m ρ K ck); iexact H
theorem reached_of (ck : Dev nD × Fin 17) : records m ρ K ⊢ reached ER (kcell ck) 0 := by
  unfold records
  iintro ⟨-, H⟩
  iapply (reached_of' (F := F) ck); iexact H

theorem inv_bar (c : Dev nD) : records m ρ K ⊢ cellInv ER (ringRd m ρ) (K (c, 0)) (barCell c) := inv_of m ρ K (c, 0)
theorem inv_dma (k : Fin 16) (c : Dev nD) : records m ρ K ⊢ cellInv ER (ringRd m ρ) (K (c, kd k)) (dCell k c) := inv_of m ρ K (c, kd k)
theorem reached_bar (c : Dev nD) : records m ρ K ⊢ reached ER (barCell c) 0 := reached_of m ρ K (c, 0)
theorem reached_dma (k : Fin 16) (c : Dev nD) : records m ρ K ⊢ reached ER (dCell k c) 0 := reached_of m ρ K (c, kd k)

/-- Device `c` owes the debts `l`, whatever it has waited for. -/
def owing (c : Dev nD) (l : List Debt) : sProp 𝕄 := iprop(∃ W, owes (c : Thread nD τ) (owe l) W)

/-! ## Halves of buffers -/

theorem half_union : (Rect.unit (s := S4x256x512) ![0, 0, 0] S2x256x512.size inb_S4x256x512_S2x256x512_0_0_0).set
    ∪ (Rect.unit (s := S4x256x512) ![2, 0, 0] S2x256x512.size inb_S4x256x512_S2x256x512_2_0_0).set = Finset.univ := by
  ext i
  simp only [Finset.mem_union, Finset.mem_univ, iff_true, Rect.mem_set_unit]
  have h0 : (i 0).val < 4 := (i 0).isLt
  have h1 : (i 1).val < 256 := (i 1).isLt
  have h2 : (i 2).val < 512 := (i 2).isLt
  by_cases h : (i 0).val < 2
  · left; intro a; fin_cases a
    · exact ⟨Nat.zero_le _, by show (i 0).val < 0 + 2; omega⟩
    · exact ⟨Nat.zero_le _, by show (i 1).val < 0 + 256; omega⟩
    · exact ⟨Nat.zero_le _, by show (i 2).val < 0 + 512; omega⟩
  · right; intro a; fin_cases a
    · exact ⟨by show 2 ≤ (i 0).val; omega, by show (i 0).val < 2 + 2; omega⟩
    · exact ⟨Nat.zero_le _, by show (i 1).val < 0 + 256; omega⟩
    · exact ⟨Nat.zero_le _, by show (i 2).val < 0 + 512; omega⟩

theorem half_disjoint : Disjoint (Rect.unit (s := S4x256x512) ![0, 0, 0] S2x256x512.size inb_S4x256x512_S2x256x512_0_0_0).set
    (Rect.unit (s := S4x256x512) ![2, 0, 0] S2x256x512.size inb_S4x256x512_S2x256x512_2_0_0).set := by
  rw [Finset.disjoint_left]
  intro i h h'
  have a := (Rect.mem_set_unit.mp h 0).2
  have b := (Rect.mem_set_unit.mp h' 0).1
  change (i 0).val < 0 + 2 at a
  change 2 ≤ (i 0).val at b
  omega

omit [FloatOps F] in
/-- A buffer of experts is its two halves, at any share. -/
theorem halves (ℓ : Loc nD τ sig) (I J I' J' : Finset (Idx ℓ)) (hI : I = I') (hJ : J = J') (hIJ : Disjoint I' J') (hU : I' ∪ J' = Finset.univ)
    (q : PosShare TreeShare) (f : Buf (Elt F) ℓ) :
    ((ℓ ↦{q} f : sProp 𝕄)) ⊣⊢ iprop((ℓ ↦[I]{q} f) ∗ (ℓ ↦[J]{q} f)) := by
  subst hI hJ
  rw [show (ℓ ↦{q} f : sProp 𝕄) = (ℓ ↦[I ∪ J]{q} f) by rw [hU]]
  exact pointsTo_union hIJ

omit [FloatOps F] in
theorem halves_my (q : PosShare TreeShare) (c : Dev nD) (f : Buf (Elt F) ((c : Thread nD τ).loc cc0_scratch0)) :
    ((((c : Thread nD τ).loc cc0_scratch0) ↦{q} f : sProp 𝕄)) ⊣⊢ iprop(hp (lo myM) q c f ∗ hp (hi myM) q c f) :=
  halves _ _ _ _ _ (View.set_slice_whole cc0_scratch0 _) (View.set_slice_whole cc0_scratch0 _) half_disjoint half_union q f
omit [FloatOps F] in
theorem halves_L (q : PosShare TreeShare) (c : Dev nD) (f : Buf (Elt F) ((c : Thread nD τ).loc cc0_scratch1)) :
    ((((c : Thread nD τ).loc cc0_scratch1) ↦{q} f : sProp 𝕄)) ⊣⊢ iprop(hp (lo LM) q c f ∗ hp (hi LM) q c f) :=
  halves _ _ _ _ _ (View.set_slice_whole cc0_scratch1 _) (View.set_slice_whole cc0_scratch1 _) half_disjoint half_union q f
omit [FloatOps F] in
theorem halves_R (q : PosShare TreeShare) (c : Dev nD) (f : Buf (Elt F) ((c : Thread nD τ).loc cc0_scratch2)) :
    ((((c : Thread nD τ).loc cc0_scratch2) ↦{q} f : sProp 𝕄)) ⊣⊢ iprop(hp (lo RM) q c f ∗ hp (hi RM) q c f) :=
  halves _ _ _ _ _ (View.set_slice_whole cc0_scratch2 _) (View.set_slice_whole cc0_scratch2 _) half_disjoint half_union q f
omit [FloatOps F] in
theorem halves_O (q : PosShare TreeShare) (c : Dev nD) (f : Buf (Elt F) ((c : Thread nD τ).loc cc0_scratch3)) :
    ((((c : Thread nD τ).loc cc0_scratch3) ↦{q} f : sProp 𝕄)) ⊣⊢ iprop(hp (lo OM) q c f ∗ hp (hi OM) q c f) :=
  halves _ _ _ _ _ (View.set_slice_whole cc0_scratch3 _) (View.set_slice_whole cc0_scratch3 _) half_disjoint half_union q f

omit [FloatOps F] in
/-- The full share of half a buffer is its two half shares. -/
theorem hp_share (M : Memref sig .tc .vmem S2x256x512 .fp8e4m3) (c : Dev nD) (f) :
    (hp M fullShare c f : sProp 𝕄) ⊣⊢ iprop(hp M fullShare.left c f ∗ hp M fullShare.right c f) := by
  unfold hp
  exact pointsTo_share (PosShare.mem_left_op_right fullShare)

omit [FloatOps F] in
/-- What a transfer leaves: the target's elements hold what the source read. -/
theorem landed {s : Shape} {e : EltTy} {sp sp' : Space} (v : View sig .tc sp s e) (v' : View sig .tc sp' s e) (c n : Dev nD)
    (fd g : Buf (Elt F) (v'.loc (n : Thread nD τ))) (f : Buf (Elt F) (v.loc (c : Thread nD τ)))
    (h : ∀ x, v.read (Elt F) f x = v'.read (Elt F) g x) :
    (v'.loc (n : Thread nD τ) ↦[v'.set]{fullShare} (v'.write (Elt F) fd (v.read (Elt F) f) Finset.univ) : sProp 𝕄)
      = (v'.loc (n : Thread nD τ) ↦[v'.set]{fullShare} g) :=
  pointsTo_congr fun i hi => by
    obtain ⟨x, -, rfl⟩ := Finset.mem_map.mp hi
    rw [View.write_emb_of_mem _ _ (Finset.mem_univ x), h x, View.read_apply, cast_cast, cast_eq]

/-! ## Steps -/

/-- A wait on a DMA semaphore: the transfer's payload, and the semaphore closed at zero. -/
theorem wait_dma (c : Dev nD) (k : Fin 16) (l : List Debt) (hl : above (slv (.dma (dq k))) l)
    {sp sp' : Space} {s s' : Shape} {e e' : EltTy} {κ' : Kind} {src : Memref sig .tc sp' s' e'} {dst : Memref sig κ' sp s e}
    {hsrc : src.view.WordExact} {hdst : dst.view.WordExact} (hN : dst.view.dmaCredit = amtN (k.val + 2))
    {α : Type} {Q : α → sProp 𝕄} {kont : PUnit → Prog (TpuEff nD τ sig (Elt F) Λ₀ .tc) α} :
    iprop(records m ρ K ∗ levAts L lv ∗ cred (tallyAt (dCell k c) () (amtN (k.val + 2))) ∗ owing c l ∗ atPos ER (dCell k c) 0 ∅ 0)
      ⊢ iprop(((owing c l ∗ semVal (dCell k c) 0 ∗ dmaPay m ρ c (k.val + 2)) -∗ run c (kont ⟨⟩) Q)
          -∗ run c (.op (.waitDma2 (dq k) src dst hsrc hdst) kont) Q) := by
  unfold owing
  iintro ⟨#HR, #Hlev, Hc, ⟨%W, HO⟩, Hat⟩ Hk
  iapply (Rounds.wp_wait_rest_token 𝒱₀ ER (ringRd m ρ) (c : Thread nD τ) none (κ := K (c, kd k))
      (wpE_waitDma2_eq 𝒱₀ (c : Thread nD τ) none Set.univ) (Set.mem_univ _) () (O := owe l) (W := W) (R := 0) (m := 0) (T := ∅)
      (by rw [Nat.zero_add, hN, expect_dma m ρ c k])) $$ [Hc HO Hat]
  · isplitr; · iapply (inv_dma m ρ K k c); iexact HR
    isplitl [Hc]; · rw [hN]; iexact Hc
    isplitl [HO]; · iexact HO
    isplitr; · iapply (mayWait c (.dma (dq k)) l hl); iexact Hlev
    iexact Hat
  iintro ⟨HO, Hat, -, Hpay⟩
  imod (Rounds.cell_close ER (ringRd m ρ) (Set.mem_univ (K (c, kd k))) (fun h => h) (R := 0 + 1) (duties_later m ρ (dCell k c))) $$ [Hat] with Hz
  · isplitr; · iapply (inv_dma m ρ K k c); iexact HR
    iexact Hat
  iapply Hk
  isplitl [HO]; · iexists _; iexact HO
  isplitl [Hz]; · iexact Hz
  iapply (Entails.of_eq (rest_dma m ρ c k)); iexact Hpay

/-- The wait on the barrier: both neighbours' buffers. -/
theorem wait_bar (c : Dev nD) (l : List Debt) (hl : above 1 l)
    {α : Type} {Q : α → sProp 𝕄} {kont : PUnit → Prog (TpuEff nD τ sig (Elt F) Λ₀ .tc) α} (n : Int) (hn : n = 2) :
    iprop(records m ρ K ∗ levAts L lv ∗ cred (tallyAt (barCell c) () 2) ∗ owing c l ∗ atPos ER (barCell c) 0 ∅ 0)
      ⊢ iprop(((owing c l ∗ semVal (barCell c) 0 ∗ barPayF c ∗ barPayT c) -∗ run c (kont ⟨⟩) Q)
          -∗ run c (.op (.semWait barS.sem n) kont) Q) := by
  subst hn
  unfold owing
  iintro ⟨#HR, #Hlev, Hc, ⟨%W, HO⟩, Hat⟩ Hk
  iapply (Rounds.wp_wait_rest_token 𝒱₀ ER (ringRd m ρ) (c : Thread nD τ) none (κ := K (c, 0))
      (wpE_semWait_eq 𝒱₀ (c : Thread nD τ) none Set.univ) (Set.mem_univ _) () (O := owe l) (W := W) (R := 0) (m := 0) (T := ∅)
      (by rw [expect_bar])) $$ [Hc HO Hat]
  · isplitr; · iapply (inv_bar m ρ K c); iexact HR
    isplitl [Hc]; · iexact Hc
    isplitl [HO]; · iexact HO
    isplitr; · iapply (mayWait c (.reg barS.sem) l hl); iexact Hlev
    iexact Hat
  iintro ⟨HO, Hat, -, Hpay⟩
  imod (Rounds.cell_close ER (ringRd m ρ) (Set.mem_univ (K (c, 0))) (fun h => h) (R := 0 + 1) (duties_later m ρ (barCell c))) $$ [Hat] with Hz
  · isplitr; · iapply (inv_bar m ρ K c); iexact HR
    iexact Hat
  iapply Hk
  isplitl [HO]; · iexists _; iexact HO
  isplitl [Hz]; · iexact Hz
  iapply (Entails.of_eq (rest_bar m ρ c)); iexact Hpay

theorem payload_eq (g : GSem nD τ sig) (r : ℕ) (d : Bool) : (ringRd (F := F) m ρ).payload g r d = payOf m ρ g d := rfl

/-- A signal of the barrier of device `x`, with the payload of its duty `d`. -/
theorem signal_bar (c x x' : Dev nD) (hx : x' = x) (d : Bool) (l : List Debt) (n : Int) (hn : n = 1)
    {α : Type} {Q : α → sProp 𝕄} {kont : PUnit → Prog (TpuEff nD τ sig (Elt F) Λ₀ .tc) α} :
    iprop(records m ρ K ∗ owing c ((x, .reg barS.sem, 1) :: l) ∗ dutyTok ER (barCell x) 0 d ∗ payOf m ρ (barCell x) d)
      ⊢ iprop((owing c l -∗ run c (kont ⟨⟩) Q)
          -∗ run c (.op (.semSignal (x' : Thread nD τ) barS.sem n) kont) Q) := by
  subst hx hn
  unfold owing
  iintro ⟨#HR, ⟨%W, HO⟩, Ht, Hpay⟩ Hk
  iapply (Rounds.wp_signal 𝒱₀ ER (ringRd m ρ) (c : Thread nD τ) none (dst := (x' : Thread nD τ)) (κ := K (x', 0))
      (d := d) (by rw [duties_bar]; exact Finset.mem_univ _) rfl () (owe l) rfl) $$ [HO Ht Hpay]
  · isplitr; · iapply (inv_bar m ρ K x'); iexact HR
    isplitl [HO]; · iexact HO
    isplitl [Ht]; · iexact Ht
    isplitl [Hpay]; · iapply (Entails.of_eq (payload_eq m ρ (barCell x') 0 d).symm); iexact Hpay
    iapply (reached_bar m ρ K x'); iexact HR
  iintro HO
  iapply Hk
  iexists W; iexact HO

/-- A send of half a buffer to device `n`: `kS` counts the departure here, `kR` the arrival there. -/
theorem send_half (c n n' : Dev nD) (hn : n' = n) (kS kR : Fin 16) (hS : amtN (kS.val + 2) = N) (hR : amtN (kR.val + 2) = N)
    (src dst : Memref sig .tc .vmem S2x256x512 .fp8e4m3) (hN : dst.view.dmaCredit = N) (q : PosShare TreeShare)
    (f : Buf (Elt F) (src.view.loc (c : Thread nD τ))) (g : Buf (Elt F) (dst.view.loc (n : Thread nD τ)))
    (hfg : ∀ x, src.view.read (Elt F) f x = dst.view.read (Elt F) g x)
    (hpS : dmaPay m ρ c (kS.val + 2) = hp src q c f) (hpR : dmaPay m ρ n (kR.val + 2) = hp dst fullShare n g) (l : List Debt)
    {hsc : (dst : Memref sig (Dev.tc n' : Thread nD τ).2.kind .vmem S2x256x512 .fp8e4m3).view.ref.isScScratch = false}
    {hsrc : src.view.WordExact} {hdst : (dst : Memref sig (Dev.tc n' : Thread nD τ).2.kind .vmem S2x256x512 .fp8e4m3).view.WordExact}
    {hsem : DmaTarget.Typed .vmem (.dma (dq kR)) (.remote (Dev.tc n' : Thread nD τ) dst (.dma (dq kS)) hsc)}
    {α : Type} {Q : α → sProp 𝕄} {kont : PUnit → Prog (TpuEff nD τ sig (Elt F) Λ₀ .tc) α} :
    iprop(records m ρ K ∗ hp src q c f ∗ (∃ fd, hp dst fullShare n fd) ∗ owing c ((n, .dma (dq kR), N) :: l)
        ∗ dutyTok ER (dCell kS c) 0 false ∗ dutyTok ER (dCell kR n) 0 false)
      ⊢ iprop(((cred (tallyAt (dCell kS c) () N) ∗ owing c l) -∗ run c (kont ⟨⟩) Q)
          -∗ run c (.op (.enqueueDma src (.remote (Dev.tc n' : Thread nD τ) dst (.dma (dq kS)) hsc) (.dma (dq kR)) hsrc hdst hsem) kont) Q) := by
  subst hn
  unfold owing hp
  iintro ⟨#HR, Hs, ⟨%fd, Hd⟩, ⟨%W, HO⟩, HtS, HtR⟩ Hk
  iapply (Rounds.wp_send_pointsTo 𝒱₀ ER (ringRd m ρ) (c : Thread nD τ) none (sS := .dma (dq kS)) (sem := .dma (dq kR)) (κ₁ := K (c, kd kS)) (κ₂ := K (n', kd kR))
      (r₁ := 0) (r₂ := 0) (d₁ := false) (d₂ := false) (fd := fd) (fs := f) (q := q)
      (by rw [duties_dma]; exact Finset.mem_singleton_self _) (by rw [duties_dma]; exact Finset.mem_singleton_self _)
      () () N (show dst.view.amount (.dma (dq kR)) = N from hN) (show amtN (kS.val + 2) = N from hS) (show amtN (kR.val + 2) = N from hR) (owe l) rfl (W := W)
      (show _ ⊢ dmaPay m ρ c (kS.val + 2) by rw [hpS]; exact BI.Entails.refl _)
      (show _ ⊢ dmaPay m ρ n' (kR.val + 2) by rw [hpR]; exact Entails.of_eq (landed src.view dst.view c n' fd g f hfg)))
    $$ [Hs Hd HO HtS HtR]
  · isplitr; · iapply (inv_dma m ρ K kS c); iexact HR
    isplitr; · iapply (inv_dma m ρ K kR n'); iexact HR
    isplitl [Hs]; · iexact Hs
    isplitl [Hd]; · iexact Hd
    isplitl [HO]; · iexact HO
    isplitl [HtS]; · iexact HtS
    isplitr; · iapply (reached_dma m ρ K kS c); iexact HR
    isplitl [HtR]; · iexact HtR
    iapply (reached_dma m ρ K kR n'); iexact HR
  iintro ⟨Hc, HO⟩
  iapply Hk
  isplitl [Hc]; · iexact Hc
  iexists W; iexact HO

/-- The start of a local copy of a whole buffer `b` to a whole buffer `b'`. -/
theorem copy_whole (c : Dev nD) (k : Fin 16) {sp sp' : Space} {s : Shape} {e : EltTy}
    (src : Memref sig .tc sp s e) (dst : Memref sig .tc sp' s e) (hN : dst.view.dmaCredit = amtN (k.val + 2))
    (f : Buf (Elt F) (src.view.loc (c : Thread nD τ))) (g : Buf (Elt F) (dst.view.loc (c : Thread nD τ)))
    (hfg : ∀ x, src.view.read (Elt F) f x = dst.view.read (Elt F) g x)
    (hpay : dmaPay m ρ c (k.val + 2) = iprop((src.view.loc (c : Thread nD τ) ↦[src.view.set]{fullShare} f) ∗ (dst.view.loc (c : Thread nD τ) ↦[dst.view.set]{fullShare} g)))
    {hsrc : src.view.WordExact} {hdst : dst.view.WordExact} {hsem : DmaTarget.Typed (nD := nD) (τ := τ) sp (.dma (dq k)) (.here (p := (c : Thread nD τ).2) dst)}
    {α : Type} {Q : α → sProp 𝕄} {kont : PUnit → Prog (TpuEff nD τ sig (Elt F) Λ₀ .tc) α} :
    iprop(records m ρ K ∗ (src.view.loc (c : Thread nD τ) ↦[src.view.set]{fullShare} f)
        ∗ (∃ fd, dst.view.loc (c : Thread nD τ) ↦[dst.view.set]{fullShare} fd) ∗ dutyTok ER (dCell k c) 0 false)
      ⊢ iprop((cred (tallyAt (dCell k c) () (amtN (k.val + 2))) -∗ run c (kont ⟨⟩) Q)
          -∗ run c (.op (.enqueueDma src (.here dst) (.dma (dq k)) hsrc hdst hsem) kont) Q) := by
  iintro ⟨#HR, Hs, ⟨%fd, Hd⟩, Ht⟩ Hk
  iapply (Rounds.wp_copy_pointsTo 𝒱₀ ER (ringRd m ρ) (c : Thread nD τ) none (κ := K (c, kd k)) (r := 0) (d := false) (fd := fd) (fs := f) (q := fullShare)
      (by rw [duties_dma]; exact Finset.mem_singleton_self _) () (amtN (k.val + 2)) (show dst.view.amount (.dma (dq k)) = _ from hN) rfl
      (show _ ⊢ dmaPay m ρ c (k.val + 2) by
        rw [hpay, landed src.view dst.view c c fd g f hfg]
        iintro ⟨H1, H2⟩; isplitl [H2]; · iexact H2
        iexact H1)) $$ [Hs Hd Ht]
  · isplitr; · iapply (inv_dma m ρ K k c); iexact HR
    isplitl [Hs]; · iexact Hs
    isplitl [Hd]; · iexact Hd
    isplitl [Ht]; · iexact Ht
    iapply (reached_dma m ρ K k c); iexact HR
  iintro Hc
  iapply Hk
  iexact Hc

end Cert.RingRun
-- ==== Proof.Words.lean ====
/-
# The ring's numbers

The kernel computes its neighbours' numbers by arithmetic on machine words; here these words are named. Also the
short names for what a wait on a semaphore spends and leaves.
-/
module

public import proofs.«01_k».proof.Proof.Steps

@[expose] public section

noncomputable section

namespace Cert.RingRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 17 → ℕ)

/-! ## Small facts -/

/-- The reduction of a device number around the ring, as the kernel computes it. -/
def ringW (a : BitVec 32) : BitVec 32 :=
  Scalar.select (Scalar.andi (Scalar.xori (Scalar.cmpi .slt (Scalar.remsi a (Scalar.select (Scalar.cmpi .eq 4#32 0#32) 1#32 4#32)) 0#32)
      (Scalar.cmpi .slt (Scalar.select (Scalar.cmpi .eq 4#32 0#32) 1#32 4#32) 0#32))
      (Scalar.cmpi .ne (Scalar.remsi a (Scalar.select (Scalar.cmpi .eq 4#32 0#32) 1#32 4#32)) 0#32))
    (Scalar.addi (Scalar.remsi a (Scalar.select (Scalar.cmpi .eq 4#32 0#32) 1#32 4#32)) (Scalar.select (Scalar.cmpi .eq 4#32 0#32) 1#32 4#32))
    (Scalar.remsi a (Scalar.select (Scalar.cmpi .eq 4#32 0#32) 1#32 4#32))

theorem word_self (c : Dev nD) : Scalar.remsi (Scalar.divsi (Dev.word c) 1#32) 4#32 = Dev.word c := by revert c; decide +kernel
theorem word_lft (c : Dev nD) : ringW (Scalar.subi (Dev.word c) 1#32) = Dev.word (lft c) := by revert c; decide +kernel
theorem word_rgt (c : Dev nD) : ringW (Scalar.addi (Dev.word c) 1#32) = Dev.word (rgt c) := by revert c; decide +kernel
theorem word_opp (c : Dev nD) : ringW (Scalar.addi (Dev.word c) 2#32) = Dev.word (opp c) := by revert c; decide +kernel

theorem hz2 : (![0, 0] : Fin 2 → Nat) = fun _ => 0 := funext fun a => by fin_cases a <;> rfl
theorem hz3 : (![0, 0, 0] : Fin 3 → Nat) = fun _ => 0 := funext fun a => by fin_cases a <;> rfl

/-- The token of the duty that a semaphore's only round has, the position before that round, an empty counter, and the credit for
    the whole round. -/
abbrev tok (k : Fin 16) (c : Dev nD) : sProp 𝕄 := dutyTok ER (dCell k c) 0 false
abbrev at0 (k : Fin 16) (c : Dev nD) : sProp 𝕄 := atPos ER (dCell k c) 0 ∅ 0
abbrev zero (k : Fin 16) (c : Dev nD) : sProp 𝕄 := semVal (dCell k c) 0
abbrev crd (k : Fin 16) (c : Dev nD) : sProp 𝕄 := cred (tallyAt (dCell k c) () (amtN (k.val + 2)))

/-- Device `c`'s semaphores hold what the first part of its body needs. -/
abbrev some' (M : Memref sig .tc .vmem S2x256x512 .fp8e4m3) (c : Dev nD) : sProp 𝕄 := iprop(∃ f, hp M fullShare c f)

omit [FloatOps F] in
/-- A whole buffer, seen through its view. -/
theorem wp'_eq (b : Ref sig .tc) (c : Dev nD) (f : Buf (Elt F) ((c : Thread nD τ).loc b)) :
    wp' b c f = ((Memref.whole b).view.loc (c : Thread nD τ) ↦[(Memref.whole b).view.set]{fullShare} f : sProp 𝕄) :=
  congrArg (fun S => ((c : Thread nD τ).loc b ↦[S]{fullShare} f : sProp 𝕄)) (View.set_whole b).symm

theorem ret_entails {α : Type} (Kt : α → sProp 𝕄) (a b : α) (h : b = a) : Kt b ⊢ Kt a := Entails.of_eq (congrArg Kt h)

theorem rd_x (f) : (Memref.whole cc0_scratch4).view.readAt (Elt F) (Rect.unit (s := S1024x256) ![0, 0] ![1024, 256] inb_S1024x256_S1024x256_0_0).toLoadRect f = f :=
  Memref.readAt_unit_zero (Elt F) cc0_scratch4 hz2 _ f
theorem rd_w (f) : (Memref.whole cc0_scratch5).view.readAt (Elt F) (Rect.unit (s := S256x16) ![0, 0] ![256, 16] inb_S256x16_S256x16_0_0).toLoadRect f = f :=
  Memref.readAt_unit_zero (Elt F) cc0_scratch5 hz2 _ f
theorem rd_i (f) : (Memref.whole cc0_scratch6).view.readAt (Elt F) (Rect.unit (s := S1024x1) ![0, 0] ![1024, 1] inb_S1024x1_S1024x1_0_0).toLoadRect f = f :=
  Memref.readAt_unit_zero (Elt F) cc0_scratch6 hz2 _ f
theorem rd_s (f) : (Memref.whole cc0_scratch7).view.readAt (Elt F) (Rect.unit (s := S256x512) ![0, 0] ![256, 512] inb_S256x512_S256x512_0_0).toLoadRect f = f :=
  Memref.readAt_unit_zero (Elt F) cc0_scratch7 hz2 _ f
theorem rd_e (f) : (Memref.whole cc0_stg0_0).view.readAt (Elt F) (Rect.unit (s := S4x256x512) ![0, 0, 0] ![4, 256, 512] inb_S4x256x512_S4x256x512_0_0_0).toLoadRect f = f :=
  Memref.readAt_unit_zero (Elt F) cc0_stg0_0 hz3 _ f
theorem wr_my (f w) : View.write (Elt F) ((Memref.whole cc0_scratch0).access (Rect.unit (s := S4x256x512) ![0, 0, 0] ![4, 256, 512] inb_S4x256x512_S4x256x512_0_0_0)) f w Finset.univ = w :=
  Memref.write_access_unit_zero_univ (Elt F) cc0_scratch0 hz3 _ f w

end Cert.RingRun
-- ==== Proof.Parts1.lean ====
/-
# The first four parts

Each part of the printed body gets one lemma: what it needs, what it leaves, and the values it hands on. Here the
local copies start, the neighbours meet at the barrier, the own experts go out, and the operands are read.
-/
module

public import proofs.«01_k».proof.Proof.Words

@[expose] public section

noncomputable section

namespace Cert.RingRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 17 → ℕ)

set_option maxHeartbeats 1000000 in
/-- The first part starts the four local copies and computes the neighbours' numbers. -/
theorem part1_spec (c : Dev nD) (Kt : _ → sProp 𝕄) :
    iprop(records m ρ K ∗ levAts L lv ∗ wp' main_arg0 c (m ((c : Thread nD τ).loc main_arg0)) ∗ wp' main_arg1 c (m ((c : Thread nD τ).loc main_arg1)) ∗ wp' main_arg2 c (m ((c : Thread nD τ).loc main_arg2)) ∗ wp' main_arg4 c (m ((c : Thread nD τ).loc main_arg4)) ∗ (∃ f, wp' cc0_scratch4 c f) ∗ (∃ f, wp' cc0_scratch5 c f) ∗ (∃ f, wp' cc0_scratch6 c f) ∗ (∃ f, wp' cc0_scratch7 c f) ∗ tok 12 c ∗ tok 13 c ∗ tok 14 c ∗ tok 15 c ∗ ((crd 12 c ∗ crd 13 c ∗ crd 14 c ∗ crd 15 c) -∗ Kt ⟨c, Dev.word c, Dev.word (lft c), Dev.word (rgt c), barS⟩))
      ⊢ run c (k0_part1 (Memref.whole main_arg0) (Memref.isWhole_whole _) (Memref.whole main_arg1) (Memref.isWhole_whole _) (Memref.whole main_arg2) (Memref.isWhole_whole _) (Memref.whole cc0_stg0_0) (Memref.isWhole_whole _) (Memref.whole main_arg4) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12) Kt := by
  simp only [k0_part1_eq_skeleton]; unfold k0_part1_skel
  simp only [semSignalWord, semWaitWord, Prog.lift, Prog.bind_op, Prog.bind_ret, Prog.pure_eq_ret, Prog.bind_assoc, wp_deviceId]
  simp only [s18_0, s18_1, s18_2, s18_3]
  iintro ⟨#HR, #Hlev, HA0, HA1, HA2, HA3, HS0, HS1, HS2, HS3, Ht0, Ht1, Ht2, Ht3, Hcont⟩
  iapply (copy_whole m ρ K c 12 (Memref.whole main_arg0) (Memref.whole cc0_scratch4) rfl (m ((c : Thread nD τ).loc main_arg0)) (xC m c) (fun _ => rfl)
    (congrArg₂ (fun P Q => iprop(P ∗ Q)) (wp'_eq main_arg0 c _) (wp'_eq cc0_scratch4 c _))) $$ [HA0 HS0 Ht0]
  · isplitr; · iexact HR
    isplitl [HA0]; · iapply (Entails.of_eq (wp'_eq main_arg0 c _)); iexact HA0
    isplitl [HS0]
    · icases HS0 with ⟨%fd, HS0⟩
      iexists fd
      iapply (Entails.of_eq (wp'_eq cc0_scratch4 c fd)); iexact HS0
    iexact Ht0
  iintro Hc0
  iapply (copy_whole m ρ K c 13 (Memref.whole main_arg1) (Memref.whole cc0_scratch5) rfl (m ((c : Thread nD τ).loc main_arg1)) (rwC m c) (fun _ => rfl)
    (congrArg₂ (fun P Q => iprop(P ∗ Q)) (wp'_eq main_arg1 c _) (wp'_eq cc0_scratch5 c _))) $$ [HA1 HS1 Ht1]
  · isplitr; · iexact HR
    isplitl [HA1]; · iapply (Entails.of_eq (wp'_eq main_arg1 c _)); iexact HA1
    isplitl [HS1]
    · icases HS1 with ⟨%fd, HS1⟩
      iexists fd
      iapply (Entails.of_eq (wp'_eq cc0_scratch5 c fd)); iexact HS1
    iexact Ht1
  iintro Hc1
  iapply (copy_whole m ρ K c 14 (Memref.whole main_arg2) (Memref.whole cc0_scratch6) rfl (m ((c : Thread nD τ).loc main_arg2)) (ixC m c) (fun _ => rfl)
    (congrArg₂ (fun P Q => iprop(P ∗ Q)) (wp'_eq main_arg2 c _) (wp'_eq cc0_scratch6 c _))) $$ [HA2 HS2 Ht2]
  · isplitr; · iexact HR
    isplitl [HA2]; · iapply (Entails.of_eq (wp'_eq main_arg2 c _)); iexact HA2
    isplitl [HS2]
    · icases HS2 with ⟨%fd, HS2⟩
      iexists fd
      iapply (Entails.of_eq (wp'_eq cc0_scratch6 c fd)); iexact HS2
    iexact Ht2
  iintro Hc2
  iapply (copy_whole m ρ K c 15 (Memref.whole main_arg4) (Memref.whole cc0_scratch7) rfl (m ((c : Thread nD τ).loc main_arg4)) (swC m c) (fun _ => rfl)
    (congrArg₂ (fun P Q => iprop(P ∗ Q)) (wp'_eq main_arg4 c _) (wp'_eq cc0_scratch7 c _))) $$ [HA3 HS3 Ht3]
  · isplitr; · iexact HR
    isplitl [HA3]; · iapply (Entails.of_eq (wp'_eq main_arg4 c _)); iexact HA3
    isplitl [HS3]
    · icases HS3 with ⟨%fd, HS3⟩
      iexists fd
      iapply (Entails.of_eq (wp'_eq cc0_scratch7 c fd)); iexact HS3
    iexact Ht3
  iintro Hc3
  first | rw [wp_ret] | rw [show ∀ {α : Type} (a : α) (Q : α → sProp 𝕄), run (F := F) c (.ret a) Q = _ from fun a Q => wp_ret ..]
  imodintro
  iapply (ret_entails Kt _ ⟨c, Dev.word c, Dev.word (lft c), Dev.word (rgt c), barS⟩ ?_)
  case _ => exact by rw [word_self, ← word_lft, ← word_rgt]; rfl
  iapply Hcont
  isplitl [Hc0]; · iexact Hc0
  isplitl [Hc1]; · iexact Hc1
  isplitl [Hc2]; · iexact Hc2
  iexact Hc3

set_option maxHeartbeats 1000000 in
/-- The second part signals both neighbours, waits for both, rounds its own experts to eight bits and sends the first half right. -/
theorem part2_spec (c : Dev nD) (Kt : _ → sProp 𝕄) :
    iprop(records m ρ K ∗ levAts L lv ∗ owing c (sig1 c) ∗ dutyTok ER (barCell (lft c)) 0 true ∗ dutyTok ER (barCell (rgt c)) 0 false ∗ some' (lo LM) c ∗ some' (hi LM) c ∗ some' (lo RM) c ∗ some' (hi RM) c ∗ some' (lo OM) c ∗ some' (hi OM) c ∗ cred (tallyAt (barCell c) () 2) ∗ atPos ER (barCell c) 0 ∅ 0 ∗ wp' cc0_stg0_0 c (wstg m ρ c) ∗ (∃ f, wp' cc0_scratch0 c f) ∗ tok 0 c ∗ tok 6 (rgt c) ∗ ((owing c (snd2 c) ∗ semVal (barCell c) 0 ∗ wp' cc0_stg0_0 c (wstg m ρ c) ∗ crd 0 c ∗ hp (hi myM) fullShare.right c (mygC m ρ c) ∗ hp (lo myM) fullShare.left c (mygC m ρ c) ∗ hp (lo myM) fullShare.right c (mygC m ρ c) ∗ some' (lo LM) (rgt c) ∗ some' (hi OM) (rgt c) ∗ some' (lo RM) (lft c) ∗ some' (hi RM) (lft c) ∗ some' (lo OM) (lft c)) -∗ Kt ⟨⟩))
      ⊢ run c (k0_part2 (Memref.whole main_arg0) (Memref.isWhole_whole _) (Memref.whole main_arg1) (Memref.isWhole_whole _) (Memref.whole main_arg2) (Memref.isWhole_whole _) (Memref.whole cc0_stg0_0) (Memref.isWhole_whole _) (Memref.whole main_arg4) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 c (Dev.word (lft c)) (Dev.word (rgt c)) barS) Kt := by
  simp only [k0_part2_eq_skeleton]; unfold k0_part2_skel
  simp only [semSignalWord, semWaitWord, Prog.lift, Prog.bind_op, Prog.bind_ret, Prog.pure_eq_ret, Prog.bind_assoc, wp_deviceId]
  simp only [s14_0, s16_0]
  iintro ⟨#HR, #Hlev, HO, HtL, HtR, HLl, HLh, HRl, HRh, HOl, HOh, Hc, Hat, HW, HM, Ht0, Ht6, Hcont⟩
  iapply (signal_bar m ρ K c (lft c) _ (dev1_eq c) true (sig2 c) _ rfl) $$ [HO HtL HLl HLh HOh]
  · isplitr; · iexact HR
    isplitl [HO]; · iexact HO
    isplitl [HtL]; · iexact HtL
    iapply (show iprop(some' (hi LM) c ∗ some' (lo LM) c ∗ some' (hi OM) c) ⊢ payOf m ρ (barCell (lft c)) true from
      Entails.of_eq (by show _ = barPayT (lft c); unfold barPayT; rw [rgt_lft]))
    isplitl [HLh]; · iexact HLh
    isplitl [HLl]; · iexact HLl
    iexact HOh
  iintro HO
  iapply (signal_bar m ρ K c (rgt c) _ (dev2_eq c) false (snd1 c) _ rfl) $$ [HO HtR HRl HRh HOl]
  · isplitr; · iexact HR
    isplitl [HO]; · iexact HO
    isplitl [HtR]; · iexact HtR
    iapply (show iprop(some' (lo RM) c ∗ some' (hi RM) c ∗ some' (lo OM) c) ⊢ payOf m ρ (barCell (rgt c)) false from
      Entails.of_eq (by show _ = barPayF (rgt c); unfold barPayF; rw [lft_rgt]))
    isplitl [HRl]; · iexact HRl
    isplitl [HRh]; · iexact HRh
    iexact HOl
  iintro HO
  iapply (wait_bar m ρ K c (snd1 c) (above_snd1 c) _ rfl) $$ [Hc HO Hat]
  · isplitr; · iexact HR
    isplitr; · iexact Hlev
    isplitl [Hc]; · iexact Hc
    isplitl [HO]; · iexact HO
    iexact Hat
  unfold barPayF barPayT
  iintro ⟨HO, Hz, ⟨HRl, HRh, HOl⟩, HLh, HLl, HOh⟩
  unfold wp'
  icases HM with ⟨%f0, HM⟩
  iapply (wp_load 𝒱₀ (c : Thread nD τ) none Set.univ (m := Memref.whole cc0_stg0_0) (Finset.subset_univ _)) $$ HW; iintro HW
  iapply (wp_load 𝒱₀ (c : Thread nD τ) none Set.univ (m := Memref.whole cc0_scratch0) (Finset.subset_univ _)) $$ HM; iintro HM
  iapply (wp_store 𝒱₀ (c : Thread nD τ) none Set.univ (m := Memref.whole cc0_scratch0) (r := Rect.unit (s := S4x256x512) ![0, 0, 0] ![4, 256, 512] inb_S4x256x512_S4x256x512_0_0_0) (Mk := Finset.univ) (Finset.subset_univ _)) $$ HM; iintro HM
  rw [wr_my, rd_e]
  ihave HM := (show (View.loc (c : Thread nD τ) ((Memref.whole cc0_scratch0).access (Rect.unit (s := S4x256x512) ![0, 0, 0] ![4, 256, 512] inb_S4x256x512_S4x256x512_0_0_0))
    ↦{fullShare} k0_pay2 (wstg m ρ c)) ⊢ (((c : Thread nD τ).loc cc0_scratch0) ↦{fullShare} mygC m ρ c : sProp 𝕄) from BI.Entails.refl _) $$ HM
  ihave HM2 := (halves_my fullShare c (mygC m ρ c)).1 $$ HM
  icases HM2 with ⟨Hl, Hh⟩
  ihave Hl2 := (hp_share (lo myM) c (mygC m ρ c)).1 $$ Hl
  icases Hl2 with ⟨Hll, Hlr⟩
  ihave Hh2 := (hp_share (hi myM) c (mygC m ρ c)).1 $$ Hh
  icases Hh2 with ⟨Hhl, Hhr⟩
  iapply (send_half m ρ K c (rgt c) _ (dev3_eq c) 0 6 rfl rfl (hi myM) (hi LM) rfl fullShare.left (mygC m ρ c) (mygC m ρ c) (fun _ => rfl) rfl (show _ = _ from congrArg (fun d => hp (hi LM) fullShare (rgt c) (mygC m ρ d)) (lft_rgt c)) (snd2 c))
    $$ [Hhl HLh HO Ht0 Ht6]
  · isplitr; · iexact HR
    isplitl [Hhl]; · iexact Hhl
    isplitl [HLh]; · iexact HLh
    isplitl [HO]; · iexact HO
    isplitl [Ht0]; · iexact Ht0
    iexact Ht6
  iintro ⟨Hc0, HO⟩
  first | rw [wp_ret] | rw [show ∀ {α : Type} (a : α) (Q : α → sProp 𝕄), run (F := F) c (.ret a) Q = _ from fun a Q => wp_ret ..]
  imodintro
  iapply (ret_entails Kt _ ⟨⟩ ?_)
  case _ => exact rfl
  iapply Hcont
  isplitl [HO]; · iexact HO
  isplitl [Hz]; · iexact Hz
  isplitl [HW]; · iexact HW
  isplitl [Hc0]; · iexact Hc0
  isplitl [Hhr]; · iexact Hhr
  isplitl [Hll]; · iexact Hll
  isplitl [Hlr]; · iexact Hlr
  isplitl [HLl]; · iexact HLl
  isplitl [HOh]; · iexact HOh
  isplitl [HRl]; · iexact HRl
  isplitl [HRh]; · iexact HRh
  iexact HOl

set_option maxHeartbeats 1000000 in
/-- The third part sends the other three halves and waits for three of the local copies. -/
theorem part3_spec (c : Dev nD) (Kt : _ → sProp 𝕄) :
    iprop(records m ρ K ∗ levAts L lv ∗ owing c (snd2 c) ∗ hp (hi myM) fullShare.right c (mygC m ρ c) ∗ hp (lo myM) fullShare.left c (mygC m ρ c) ∗ hp (lo myM) fullShare.right c (mygC m ρ c) ∗ some' (lo LM) (rgt c) ∗ some' (lo RM) (lft c) ∗ some' (hi RM) (lft c) ∗ tok 1 c ∗ tok 2 c ∗ tok 3 c ∗ tok 7 (rgt c) ∗ tok 8 (lft c) ∗ tok 9 (lft c) ∗ crd 12 c ∗ crd 13 c ∗ crd 14 c ∗ at0 12 c ∗ at0 13 c ∗ at0 14 c ∗ ((owing c (fwd1 c) ∗ crd 1 c ∗ crd 2 c ∗ crd 3 c ∗ zero 12 c ∗ zero 13 c ∗ zero 14 c ∗ wp' main_arg0 c (m ((c : Thread nD τ).loc main_arg0)) ∗ wp' main_arg1 c (m ((c : Thread nD τ).loc main_arg1)) ∗ wp' main_arg2 c (m ((c : Thread nD τ).loc main_arg2)) ∗ wp' cc0_scratch4 c (xC m c) ∗ wp' cc0_scratch5 c (rwC m c) ∗ wp' cc0_scratch6 c (ixC m c)) -∗ Kt ⟨⟩))
      ⊢ run c (k0_part3 (Memref.whole main_arg0) (Memref.isWhole_whole _) (Memref.whole main_arg1) (Memref.isWhole_whole _) (Memref.whole main_arg2) (Memref.isWhole_whole _) (Memref.whole cc0_stg0_0) (Memref.isWhole_whole _) (Memref.whole main_arg4) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 c (Dev.word (lft c)) (Dev.word (rgt c))) Kt := by
  simp only [k0_part3_eq_skeleton]; unfold k0_part3_skel
  simp only [semSignalWord, semWaitWord, Prog.lift, Prog.bind_op, Prog.bind_ret, Prog.pure_eq_ret, Prog.bind_assoc, wp_deviceId]
  simp only [s14_1, s14_2, s14_3, s16_1, s16_2, s16_3, s18_0, s18_1, s18_2]
  iintro ⟨#HR, #Hlev, HO, Hhr, Hll, Hlr, HLl, HRl, HRh, Ht1, Ht2, Ht3, Ht7, Ht8, Ht9, Hk0, Hk1, Hk2, Ha0, Ha1, Ha2, Hcont⟩
  iapply (send_half m ρ K c (lft c) _ (dev4_eq c) 2 8 rfl rfl (lo myM) (lo RM) rfl fullShare.right (mygC m ρ c) (mygC m ρ c) (fun _ => rfl) rfl (show _ = _ from congrArg (fun d => hp (lo RM) fullShare (lft c) (mygC m ρ d)) (rgt_lft c)) (snd3 c))
    $$ [Hlr HRl HO Ht2 Ht8]
  · isplitr; · iexact HR
    isplitl [Hlr]; · iexact Hlr
    isplitl [HRl]; · iexact HRl
    isplitl [HO]; · iexact HO
    isplitl [Ht2]; · iexact Ht2
    iexact Ht8
  iintro ⟨Hc2, HO⟩
  iapply (send_half m ρ K c (rgt c) _ (dev5_eq c) 1 7 rfl rfl (lo myM) (lo LM) rfl fullShare.left (mygC m ρ c) (mygC m ρ c) (fun _ => rfl) rfl (show _ = _ from congrArg (fun d => hp (lo LM) fullShare (rgt c) (mygC m ρ d)) (lft_rgt c)) (snd4 c))
    $$ [Hll HLl HO Ht1 Ht7]
  · isplitr; · iexact HR
    isplitl [Hll]; · iexact Hll
    isplitl [HLl]; · iexact HLl
    isplitl [HO]; · iexact HO
    isplitl [Ht1]; · iexact Ht1
    iexact Ht7
  iintro ⟨Hc1, HO⟩
  iapply (send_half m ρ K c (lft c) _ (dev6_eq c) 3 9 rfl rfl (hi myM) (hi RM) rfl fullShare.right (mygC m ρ c) (mygC m ρ c) (fun _ => rfl) rfl (show _ = _ from congrArg (fun d => hp (hi RM) fullShare (lft c) (mygC m ρ d)) (rgt_lft c)) (fwd1 c))
    $$ [Hhr HRh HO Ht3 Ht9]
  · isplitr; · iexact HR
    isplitl [Hhr]; · iexact Hhr
    isplitl [HRh]; · iexact HRh
    isplitl [HO]; · iexact HO
    isplitl [Ht3]; · iexact Ht3
    iexact Ht9
  iintro ⟨Hc3, HO⟩
  iapply (wait_dma m ρ K c 12 (fwd1 c) (above_mono (show 0 ≤ 2 by decide) (above_fwd1 c)) (dst := Memref.whole cc0_scratch4) rfl) $$ [HO Hk0 Ha0]
  · isplitr; · iexact HR
    isplitr; · iexact Hlev
    isplitl [Hk0]; · iexact Hk0
    isplitl [HO]; · iexact HO
    iexact Ha0
  iintro ⟨HO, Hz0, HP⟩
  ihave HP := (show dmaPay m ρ c ((12 : Fin 16).val + 2) ⊢ iprop(wp' main_arg0 c (m ((c : Thread nD τ).loc main_arg0)) ∗ wp' cc0_scratch4 c (xC m c)) from BI.Entails.refl _) $$ HP
  icases HP with ⟨HA0, HS0⟩
  iapply (wait_dma m ρ K c 13 (fwd1 c) (above_mono (show 0 ≤ 2 by decide) (above_fwd1 c)) (dst := Memref.whole cc0_scratch5) rfl) $$ [HO Hk1 Ha1]
  · isplitr; · iexact HR
    isplitr; · iexact Hlev
    isplitl [Hk1]; · iexact Hk1
    isplitl [HO]; · iexact HO
    iexact Ha1
  iintro ⟨HO, Hz1, HP⟩
  ihave HP := (show dmaPay m ρ c ((13 : Fin 16).val + 2) ⊢ iprop(wp' main_arg1 c (m ((c : Thread nD τ).loc main_arg1)) ∗ wp' cc0_scratch5 c (rwC m c)) from BI.Entails.refl _) $$ HP
  icases HP with ⟨HA1, HS1⟩
  iapply (wait_dma m ρ K c 14 (fwd1 c) (above_mono (show 0 ≤ 2 by decide) (above_fwd1 c)) (dst := Memref.whole cc0_scratch6) rfl) $$ [HO Hk2 Ha2]
  · isplitr; · iexact HR
    isplitr; · iexact Hlev
    isplitl [Hk2]; · iexact Hk2
    isplitl [HO]; · iexact HO
    iexact Ha2
  iintro ⟨HO, Hz2, HP⟩
  ihave HP := (show dmaPay m ρ c ((14 : Fin 16).val + 2) ⊢ iprop(wp' main_arg2 c (m ((c : Thread nD τ).loc main_arg2)) ∗ wp' cc0_scratch6 c (ixC m c)) from BI.Entails.refl _) $$ HP
  icases HP with ⟨HA2, HS2⟩
  first | rw [wp_ret] | rw [show ∀ {α : Type} (a : α) (Q : α → sProp 𝕄), run (F := F) c (.ret a) Q = _ from fun a Q => wp_ret ..]
  imodintro
  iapply (ret_entails Kt _ ⟨⟩ ?_)
  case _ => exact rfl
  iapply Hcont
  isplitl [HO]; · iexact HO
  isplitl [Hc1]; · iexact Hc1
  isplitl [Hc2]; · iexact Hc2
  isplitl [Hc3]; · iexact Hc3
  isplitl [Hz0]; · iexact Hz0
  isplitl [Hz1]; · iexact Hz1
  isplitl [Hz2]; · iexact Hz2
  isplitl [HA0]; · iexact HA0
  isplitl [HA1]; · iexact HA1
  isplitl [HA2]; · iexact HA2
  isplitl [HS0]; · iexact HS0
  isplitl [HS1]; · iexact HS1
  iexact HS2

set_option maxHeartbeats 1000000 in
/-- The fourth part waits for the last local copy and reads the staged operands. -/
theorem part4_spec (c : Dev nD) (Kt : _ → sProp 𝕄) :
    iprop(records m ρ K ∗ levAts L lv ∗ owing c (fwd1 c) ∗ crd 15 c ∗ at0 15 c ∗ wp' cc0_scratch4 c (xC m c) ∗ wp' cc0_scratch5 c (rwC m c) ∗ wp' cc0_scratch6 c (ixC m c) ∗ wp' cc0_stg0_0 c (wstg m ρ c) ∗ ((owing c (fwd1 c) ∗ zero 15 c ∗ wp' main_arg4 c (m ((c : Thread nD τ).loc main_arg4)) ∗ wp' cc0_scratch4 c (xC m c) ∗ wp' cc0_scratch5 c (rwC m c) ∗ wp' cc0_scratch6 c (ixC m c) ∗ wp' cc0_scratch7 c (swC m c) ∗ wp' cc0_stg0_0 c (wstg m ρ c)) -∗ Kt ⟨v87 m c, ixC m c, v107 m c, v110 m c, v113 m ρ c, v120 m c⟩))
      ⊢ run c (k0_part4 (Memref.whole main_arg0) (Memref.isWhole_whole _) (Memref.whole main_arg1) (Memref.isWhole_whole _) (Memref.whole main_arg2) (Memref.isWhole_whole _) (Memref.whole cc0_stg0_0) (Memref.isWhole_whole _) (Memref.whole main_arg4) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 (Dev.word c)) Kt := by
  simp only [k0_part4_eq_skeleton]; unfold k0_part4_skel
  simp only [semSignalWord, semWaitWord, Prog.lift, Prog.bind_op, Prog.bind_ret, Prog.pure_eq_ret, Prog.bind_assoc, wp_deviceId]
  simp only [s18_3]
  iintro ⟨#HR, #Hlev, HO, Hk3, Ha3, HS0, HS1, HS2, HW, Hcont⟩
  iapply (wait_dma m ρ K c 15 (fwd1 c) (above_mono (show 0 ≤ 2 by decide) (above_fwd1 c)) (dst := Memref.whole cc0_scratch7) rfl) $$ [HO Hk3 Ha3]
  · isplitr; · iexact HR
    isplitr; · iexact Hlev
    isplitl [Hk3]; · iexact Hk3
    isplitl [HO]; · iexact HO
    iexact Ha3
  iintro ⟨HO, Hz3, HP⟩
  ihave HP := (show dmaPay m ρ c ((15 : Fin 16).val + 2) ⊢ iprop(wp' main_arg4 c (m ((c : Thread nD τ).loc main_arg4)) ∗ wp' cc0_scratch7 c (swC m c)) from BI.Entails.refl _) $$ HP
  icases HP with ⟨HA3, HS3⟩
  unfold wp'
  iapply (wp_load 𝒱₀ (c : Thread nD τ) none Set.univ (m := Memref.whole cc0_scratch4) (Finset.subset_univ _)) $$ HS0; iintro HS0
  iapply (wp_load 𝒱₀ (c : Thread nD τ) none Set.univ (m := Memref.whole cc0_scratch4) (Finset.subset_univ _)) $$ HS0; iintro HS0
  iapply (wp_load 𝒱₀ (c : Thread nD τ) none Set.univ (m := Memref.whole cc0_scratch5) (Finset.subset_univ _)) $$ HS1; iintro HS1
  iapply (wp_load 𝒱₀ (c : Thread nD τ) none Set.univ (m := Memref.whole cc0_scratch6) (Finset.subset_univ _)) $$ HS2; iintro HS2
  iapply (wp_load 𝒱₀ (c : Thread nD τ) none Set.univ (m := Memref.whole cc0_scratch7) (Finset.subset_univ _)) $$ HS3; iintro HS3
  iapply (wp_load 𝒱₀ (c : Thread nD τ) none Set.univ (m := Memref.whole cc0_stg0_0) (Finset.subset_univ _)) $$ HW; iintro HW
  first | rw [wp_ret] | rw [show ∀ {α : Type} (a : α) (Q : α → sProp 𝕄), run (F := F) c (.ret a) Q = _ from fun a Q => wp_ret ..]
  imodintro
  iapply (ret_entails Kt _ ⟨v87 m c, ixC m c, v107 m c, v110 m c, v113 m ρ c, v120 m c⟩ ?_)
  case _ => exact by rw [rd_x, rd_w, rd_i, rd_s, rd_e]; rfl
  iapply Hcont
  isplitl [HO]; · iexact HO
  isplitl [Hz3]; · iexact Hz3
  isplitl [HA3]; · iexact HA3
  isplitl [HS0]; · iexact HS0
  isplitl [HS1]; · iexact HS1
  isplitl [HS2]; · iexact HS2
  isplitl [HS3]; · iexact HS3
  iexact HW

end Cert.RingRun
-- ==== Proof.Parts2.lean ====
/-
# The fifth to the eighth part

The own experts are added, and the first arrivals are forwarded and read.
-/
module

public import proofs.«01_k».proof.Proof.Words

@[expose] public section

noncomputable section

namespace Cert.RingRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 17 → ℕ)

set_option maxHeartbeats 1000000 in
/-- The fifth part adds three of the device's own experts to the shared term. -/
theorem part5_spec (c : Dev nD) (Kt : _ → sProp 𝕄) :
    iprop(records m ρ K ∗ levAts L lv ∗ (Kt ⟨v161 m ρ c, Scalar.addi (Scalar.muli (Dev.word c) 4#32) 0#32, 3#32⟩))
      ⊢ run c (k0_part5 (Memref.whole main_arg0) (Memref.isWhole_whole _) (Memref.whole main_arg1) (Memref.isWhole_whole _) (Memref.whole main_arg2) (Memref.isWhole_whole _) (Memref.whole cc0_stg0_0) (Memref.isWhole_whole _) (Memref.whole main_arg4) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 (Dev.word c) (v87 m c) (ixC m c) (v107 m c) (v110 m c) (v113 m ρ c) (v120 m c)) Kt := by
  simp only [k0_part5_eq_skeleton]; unfold k0_part5_skel
  simp only [semSignalWord, semWaitWord, Prog.lift, Prog.bind_op, Prog.bind_ret, Prog.pure_eq_ret, Prog.bind_assoc, wp_deviceId]
  iintro ⟨#HR, #Hlev, Hcont⟩
  first | rw [wp_ret] | rw [show ∀ {α : Type} (a : α) (Q : α → sProp 𝕄), run (F := F) c (.ret a) Q = _ from fun a Q => wp_ret ..]
  imodintro
  iapply (ret_entails Kt _ ⟨v161 m ρ c, Scalar.addi (Scalar.muli (Dev.word c) 4#32) 0#32, 3#32⟩ ?_)
  case _ => exact rfl
  iapply Hcont

set_option maxHeartbeats 1000000 in
/-- The sixth part waits for the right neighbour's first half and forwards it left. -/
theorem part6_spec (c : Dev nD) (Kt : _ → sProp 𝕄) :
    iprop(records m ρ K ∗ levAts L lv ∗ owing c (fwd1 c) ∗ crd 8 c ∗ at0 8 c ∗ some' (lo OM) (lft c) ∗ tok 4 c ∗ tok 10 (lft c) ∗ ((owing c (fwd2 c) ∗ zero 8 c ∗ crd 4 c ∗ hp (lo RM) fullShare.right c (mygC m ρ (rgt c))) -∗ Kt (v177 m ρ c)))
      ⊢ run c (k0_part6 (Memref.whole main_arg0) (Memref.isWhole_whole _) (Memref.whole main_arg1) (Memref.isWhole_whole _) (Memref.whole main_arg2) (Memref.isWhole_whole _) (Memref.whole cc0_stg0_0) (Memref.isWhole_whole _) (Memref.whole main_arg4) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 c (Dev.word (lft c)) (Dev.word (rgt c)) (v87 m c) (ixC m c) (v107 m c) (v113 m ρ c) (v161 m ρ c) (Scalar.addi (Scalar.muli (Dev.word c) 4#32) 0#32) 3#32) Kt := by
  simp only [k0_part6_eq_skeleton]; unfold k0_part6_skel
  simp only [semSignalWord, semWaitWord, Prog.lift, Prog.bind_op, Prog.bind_ret, Prog.pure_eq_ret, Prog.bind_assoc, wp_deviceId]
  simp only [s16_2, s15_0, s17_0]
  iintro ⟨#HR, #Hlev, HO, Hk, Ha, Hd, Ht4, Ht10, Hcont⟩
  iapply (wait_dma m ρ K c 8 (fwd1 c) (above_fwd1 c) (dst := lo RM) rfl) $$ [HO Hk Ha]
  · isplitr; · iexact HR
    isplitr; · iexact Hlev
    isplitl [Hk]; · iexact Hk
    isplitl [HO]; · iexact HO
    iexact Ha
  iintro ⟨HO, Hz, HP⟩
  ihave HP := (show dmaPay m ρ c ((8 : Fin 16).val + 2) ⊢ iprop(hp (lo RM) fullShare c (mygC m ρ (rgt c))) from BI.Entails.refl _) $$ HP
  icases HP with H
  ihave H2 := (hp_share (lo RM) c (mygC m ρ (rgt c))).1 $$ H
  icases H2 with ⟨Hl, Hr⟩
  iapply (send_half m ρ K c (lft c) _ (dev7_eq c) 4 10 rfl rfl (lo RM) (lo OM) rfl fullShare.left (mygC m ρ (rgt c)) (mygC m ρ (rgt c)) (fun _ => rfl) rfl (show _ = _ from congrArg (fun d => hp (lo OM) fullShare (lft c) (mygC m ρ d)) (opp_lft c)) (fwd2 c))
    $$ [Hl Hd HO Ht4 Ht10]
  · isplitr; · iexact HR
    isplitl [Hl]; · iexact Hl
    isplitl [Hd]; · iexact Hd
    isplitl [HO]; · iexact HO
    isplitl [Ht4]; · iexact Ht4
    iexact Ht10
  iintro ⟨Hc4, HO⟩
  first | rw [wp_ret] | rw [show ∀ {α : Type} (a : α) (Q : α → sProp 𝕄), run (F := F) c (.ret a) Q = _ from fun a Q => wp_ret ..]
  imodintro
  iapply (ret_entails Kt _ (v177 m ρ c) ?_)
  case _ => exact rfl
  iapply Hcont
  isplitl [HO]; · iexact HO
  isplitl [Hz]; · iexact Hz
  isplitl [Hc4]; · iexact Hc4
  iexact Hr

set_option maxHeartbeats 1000000 in
/-- The seventh part waits for the left neighbour's second half, forwards it right, and reads the right neighbour's first half. -/
theorem part7_spec (c : Dev nD) (Kt : _ → sProp 𝕄) :
    iprop(records m ρ K ∗ levAts L lv ∗ owing c (fwd2 c) ∗ crd 6 c ∗ at0 6 c ∗ some' (hi OM) (rgt c) ∗ tok 5 c ∗ tok 11 (rgt c) ∗ hp (lo RM) fullShare.right c (mygC m ρ (rgt c)) ∗ ((owing c [] ∗ zero 6 c ∗ crd 5 c ∗ hp (lo RM) fullShare.right c (mygC m ρ (rgt c)) ∗ hp (hi LM) fullShare.right c (mygC m ρ (lft c))) -∗ Kt ⟨v207 m ρ c, v223 m ρ c, v225 c⟩))
      ⊢ run c (k0_part7 (Memref.whole main_arg0) (Memref.isWhole_whole _) (Memref.whole main_arg1) (Memref.isWhole_whole _) (Memref.whole main_arg2) (Memref.isWhole_whole _) (Memref.whole cc0_stg0_0) (Memref.isWhole_whole _) (Memref.whole main_arg4) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 c (Dev.word (rgt c)) (v87 m c) (ixC m c) (v107 m c) (v177 m ρ c)) Kt := by
  simp only [k0_part7_eq_skeleton]; unfold k0_part7_skel
  simp only [semSignalWord, semWaitWord, Prog.lift, Prog.bind_op, Prog.bind_ret, Prog.pure_eq_ret, Prog.bind_assoc, wp_deviceId]
  simp only [s16_0, s15_1, s17_1]
  iintro ⟨#HR, #Hlev, HO, Hk, Ha, Hd, Ht5, Ht11, Hr, Hcont⟩
  iapply (wait_dma m ρ K c 6 (fwd2 c) (above_fwd2 c) (dst := hi LM) rfl) $$ [HO Hk Ha]
  · isplitr; · iexact HR
    isplitr; · iexact Hlev
    isplitl [Hk]; · iexact Hk
    isplitl [HO]; · iexact HO
    iexact Ha
  iintro ⟨HO, Hz, HP⟩
  ihave HP := (show dmaPay m ρ c ((6 : Fin 16).val + 2) ⊢ iprop(hp (hi LM) fullShare c (mygC m ρ (lft c))) from BI.Entails.refl _) $$ HP
  icases HP with H
  ihave H2 := (hp_share (hi LM) c (mygC m ρ (lft c))).1 $$ H
  icases H2 with ⟨Hl, Hlm⟩
  iapply (send_half m ρ K c (rgt c) _ (dev8_eq c) 5 11 rfl rfl (hi LM) (hi OM) rfl fullShare.left (mygC m ρ (lft c)) (mygC m ρ (lft c)) (fun _ => rfl) rfl (show _ = _ from congrArg (fun d => hp (hi OM) fullShare (rgt c) (mygC m ρ d)) (opp_rgt c)) [])
    $$ [Hl Hd HO Ht5 Ht11]
  · isplitr; · iexact HR
    isplitl [Hl]; · iexact Hl
    isplitl [Hd]; · iexact Hd
    isplitl [HO]; · iexact HO
    isplitl [Ht5]; · iexact Ht5
    iexact Ht11
  iintro ⟨Hc5, HO⟩
  unfold hp
  iapply (wp_load 𝒱₀ (c : Thread nD τ) none Set.univ (m := RM) (View.set_slice RM.view _).ge) $$ Hr; iintro Hr
  first | rw [wp_ret] | rw [show ∀ {α : Type} (a : α) (Q : α → sProp 𝕄), run (F := F) c (.ret a) Q = _ from fun a Q => wp_ret ..]
  imodintro
  iapply (ret_entails Kt _ ⟨v207 m ρ c, v223 m ρ c, v225 c⟩ ?_)
  case _ => exact rfl
  iapply Hcont
  isplitl [HO]; · iexact HO
  isplitl [Hz]; · iexact Hz
  isplitl [Hc5]; · iexact Hc5
  isplitl [Hr]; · iexact Hr
  iexact Hlm

set_option maxHeartbeats 1000000 in
/-- The eighth part reads the left neighbour's second half. -/
theorem part8_spec (c : Dev nD) (Kt : _ → sProp 𝕄) :
    iprop(records m ρ K ∗ levAts L lv ∗ hp (hi LM) fullShare.right c (mygC m ρ (lft c)) ∗ ((hp (hi LM) fullShare.right c (mygC m ρ (lft c))) -∗ Kt ⟨v241 m ρ c, v257 m ρ c, v267 m c⟩))
      ⊢ run c (k0_part8 (Memref.whole main_arg0) (Memref.isWhole_whole _) (Memref.whole main_arg1) (Memref.isWhole_whole _) (Memref.whole main_arg2) (Memref.isWhole_whole _) (Memref.whole cc0_stg0_0) (Memref.isWhole_whole _) (Memref.whole main_arg4) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 (Dev.word (lft c)) (v87 m c) (ixC m c) (v107 m c) (v207 m ρ c) (v223 m ρ c) (v225 c)) Kt := by
  simp only [k0_part8_eq_skeleton]; unfold k0_part8_skel
  simp only [semSignalWord, semWaitWord, Prog.lift, Prog.bind_op, Prog.bind_ret, Prog.pure_eq_ret, Prog.bind_assoc, wp_deviceId]
  iintro ⟨#HR, #Hlev, Hlm, Hcont⟩
  unfold hp
  iapply (wp_load 𝒱₀ (c : Thread nD τ) none Set.univ (m := LM) (View.set_slice LM.view _).ge) $$ Hlm; iintro Hlm
  first | rw [wp_ret] | rw [show ∀ {α : Type} (a : α) (Q : α → sProp 𝕄), run (F := F) c (.ret a) Q = _ from fun a Q => wp_ret ..]
  imodintro
  iapply (ret_entails Kt _ ⟨v241 m ρ c, v257 m ρ c, v267 m c⟩ ?_)
  case _ => exact rfl
  iapply Hcont
  iexact Hlm

end Cert.RingRun
-- ==== Proof.Parts3.lean ====
/-
# The ninth to the fourteenth part

The remaining arrivals are waited for and read, and the departures are waited for.
-/
module

public import proofs.«01_k».proof.Proof.Words

@[expose] public section

noncomputable section

namespace Cert.RingRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 17 → ℕ)

set_option maxHeartbeats 1000000 in
/-- The ninth part waits for the right neighbour's second half and reads it. -/
theorem part9_spec (c : Dev nD) (Kt : _ → sProp 𝕄) :
    iprop(records m ρ K ∗ levAts L lv ∗ owing c [] ∗ crd 9 c ∗ at0 9 c ∗ ((owing c [] ∗ zero 9 c ∗ hp (hi RM) fullShare c (mygC m ρ (rgt c))) -∗ Kt ⟨v281 m ρ c, v297 m ρ c, v302 m c, Scalar.ofBits .f32 0x00000000#32⟩))
      ⊢ run c (k0_part9 (Memref.whole main_arg0) (Memref.isWhole_whole _) (Memref.whole main_arg1) (Memref.isWhole_whole _) (Memref.whole main_arg2) (Memref.isWhole_whole _) (Memref.whole cc0_stg0_0) (Memref.isWhole_whole _) (Memref.whole main_arg4) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 (Dev.word (lft c)) (Dev.word (rgt c)) (v87 m c) (ixC m c) (v107 m c) (v241 m ρ c) (v257 m ρ c) (v267 m c)) Kt := by
  simp only [k0_part9_eq_skeleton]; unfold k0_part9_skel
  simp only [semSignalWord, semWaitWord, Prog.lift, Prog.bind_op, Prog.bind_ret, Prog.pure_eq_ret, Prog.bind_assoc, wp_deviceId]
  simp only [s16_3]
  iintro ⟨#HR, #Hlev, HO, Hk, Ha, Hcont⟩
  iapply (wait_dma m ρ K c 9 [] (above_nil _) (dst := hi RM) rfl) $$ [HO Hk Ha]
  · isplitr; · iexact HR
    isplitr; · iexact Hlev
    isplitl [Hk]; · iexact Hk
    isplitl [HO]; · iexact HO
    iexact Ha
  iintro ⟨HO, Hz, HP⟩
  ihave HP := (show dmaPay m ρ c ((9 : Fin 16).val + 2) ⊢ iprop(hp (hi RM) fullShare c (mygC m ρ (rgt c))) from BI.Entails.refl _) $$ HP
  icases HP with H
  unfold hp
  iapply (wp_load 𝒱₀ (c : Thread nD τ) none Set.univ (m := RM) (View.set_slice RM.view _).ge) $$ H; iintro H
  first | rw [wp_ret] | rw [show ∀ {α : Type} (a : α) (Q : α → sProp 𝕄), run (F := F) c (.ret a) Q = _ from fun a Q => wp_ret ..]
  imodintro
  iapply (ret_entails Kt _ ⟨v281 m ρ c, v297 m ρ c, v302 m c, Scalar.ofBits .f32 0x00000000#32⟩ ?_)
  case _ => exact rfl
  iapply Hcont
  isplitl [HO]; · iexact HO
  isplitl [Hz]; · iexact Hz
  iexact H

set_option maxHeartbeats 1000000 in
/-- The tenth part waits for the left neighbour's first half and reads it. -/
theorem part10_spec (c : Dev nD) (Kt : _ → sProp 𝕄) :
    iprop(records m ρ K ∗ levAts L lv ∗ owing c [] ∗ crd 7 c ∗ at0 7 c ∗ ((owing c [] ∗ zero 7 c ∗ hp (lo LM) fullShare c (mygC m ρ (lft c))) -∗ Kt ⟨v321 m ρ c, v337 m ρ c, Scalar.muli (Dev.word (lft c)) 4#32, 0#32⟩))
      ⊢ run c (k0_part10 (Memref.whole main_arg0) (Memref.isWhole_whole _) (Memref.whole main_arg1) (Memref.isWhole_whole _) (Memref.whole main_arg2) (Memref.isWhole_whole _) (Memref.whole cc0_stg0_0) (Memref.isWhole_whole _) (Memref.whole main_arg4) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 (Dev.word (lft c)) (Dev.word (rgt c)) (v87 m c) (ixC m c) (v107 m c) (v281 m ρ c) (v297 m ρ c) (v302 m c) (Scalar.ofBits .f32 0x00000000#32)) Kt := by
  simp only [k0_part10_eq_skeleton]; unfold k0_part10_skel
  simp only [semSignalWord, semWaitWord, Prog.lift, Prog.bind_op, Prog.bind_ret, Prog.pure_eq_ret, Prog.bind_assoc, wp_deviceId]
  simp only [s16_1]
  iintro ⟨#HR, #Hlev, HO, Hk, Ha, Hcont⟩
  iapply (wait_dma m ρ K c 7 [] (above_nil _) (dst := lo LM) rfl) $$ [HO Hk Ha]
  · isplitr; · iexact HR
    isplitr; · iexact Hlev
    isplitl [Hk]; · iexact Hk
    isplitl [HO]; · iexact HO
    iexact Ha
  iintro ⟨HO, Hz, HP⟩
  ihave HP := (show dmaPay m ρ c ((7 : Fin 16).val + 2) ⊢ iprop(hp (lo LM) fullShare c (mygC m ρ (lft c))) from BI.Entails.refl _) $$ HP
  icases HP with H
  unfold hp
  iapply (wp_load 𝒱₀ (c : Thread nD τ) none Set.univ (m := LM) (View.set_slice LM.view _).ge) $$ H; iintro H
  first | rw [wp_ret] | rw [show ∀ {α : Type} (a : α) (Q : α → sProp 𝕄), run (F := F) c (.ret a) Q = _ from fun a Q => wp_ret ..]
  imodintro
  iapply (ret_entails Kt _ ⟨v321 m ρ c, v337 m ρ c, Scalar.muli (Dev.word (lft c)) 4#32, 0#32⟩ ?_)
  case _ => exact rfl
  iapply Hcont
  isplitl [HO]; · iexact HO
  isplitl [Hz]; · iexact Hz
  iexact H

set_option maxHeartbeats 1000000 in
/-- The eleventh part waits for the opposite device's first half and reads it. -/
theorem part11_spec (c : Dev nD) (Kt : _ → sProp 𝕄) :
    iprop(records m ρ K ∗ levAts L lv ∗ owing c [] ∗ crd 10 c ∗ at0 10 c ∗ ((owing c [] ∗ zero 10 c ∗ hp (lo OM) fullShare c (mygC m ρ (opp c))) -∗ Kt ⟨v353 m ρ c, Dev.word (opp c), v372 m ρ c, 4#32⟩))
      ⊢ run c (k0_part11 (Memref.whole main_arg0) (Memref.isWhole_whole _) (Memref.whole main_arg1) (Memref.isWhole_whole _) (Memref.whole main_arg2) (Memref.isWhole_whole _) (Memref.whole cc0_stg0_0) (Memref.isWhole_whole _) (Memref.whole main_arg4) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 (Dev.word c) (Dev.word (lft c)) (v87 m c) (ixC m c) (v107 m c) (v321 m ρ c) (v337 m ρ c) (Scalar.muli (Dev.word (lft c)) 4#32) 0#32) Kt := by
  simp only [k0_part11_eq_skeleton]; unfold k0_part11_skel
  simp only [semSignalWord, semWaitWord, Prog.lift, Prog.bind_op, Prog.bind_ret, Prog.pure_eq_ret, Prog.bind_assoc, wp_deviceId]
  simp only [s17_0]
  iintro ⟨#HR, #Hlev, HO, Hk, Ha, Hcont⟩
  iapply (wait_dma m ρ K c 10 [] (above_nil _) (dst := lo OM) rfl) $$ [HO Hk Ha]
  · isplitr; · iexact HR
    isplitr; · iexact Hlev
    isplitl [Hk]; · iexact Hk
    isplitl [HO]; · iexact HO
    iexact Ha
  iintro ⟨HO, Hz, HP⟩
  ihave HP := (show dmaPay m ρ c ((10 : Fin 16).val + 2) ⊢ iprop(hp (lo OM) fullShare c (mygC m ρ (opp c))) from BI.Entails.refl _) $$ HP
  icases HP with H
  unfold hp
  iapply (wp_load 𝒱₀ (c : Thread nD τ) none Set.univ (m := OM) (View.set_slice OM.view _).ge) $$ H; iintro H
  first | rw [wp_ret] | rw [show ∀ {α : Type} (a : α) (Q : α → sProp 𝕄), run (F := F) c (.ret a) Q = _ from fun a Q => wp_ret ..]
  imodintro
  iapply (ret_entails Kt _ ⟨v353 m ρ c, Dev.word (opp c), v372 m ρ c, 4#32⟩ ?_)
  case _ => exact by rw [← word_opp]; rfl
  iapply Hcont
  isplitl [HO]; · iexact HO
  isplitl [Hz]; · iexact Hz
  iexact H

set_option maxHeartbeats 1000000 in
/-- The twelfth part waits for the opposite device's second half. -/
theorem part12_spec (c : Dev nD) (Kt : _ → sProp 𝕄) :
    iprop(records m ρ K ∗ levAts L lv ∗ owing c [] ∗ crd 11 c ∗ at0 11 c ∗ ((owing c [] ∗ zero 11 c ∗ hp (hi OM) fullShare c (mygC m ρ (opp c))) -∗ Kt (v404 m ρ c)))
      ⊢ run c (k0_part12 (Memref.whole main_arg0) (Memref.isWhole_whole _) (Memref.whole main_arg1) (Memref.isWhole_whole _) (Memref.whole main_arg2) (Memref.isWhole_whole _) (Memref.whole cc0_stg0_0) (Memref.isWhole_whole _) (Memref.whole main_arg4) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 (Dev.word (rgt c)) (v87 m c) (ixC m c) (v107 m c) (v353 m ρ c) (Dev.word (opp c)) (v372 m ρ c) 4#32) Kt := by
  simp only [k0_part12_eq_skeleton]; unfold k0_part12_skel
  simp only [semSignalWord, semWaitWord, Prog.lift, Prog.bind_op, Prog.bind_ret, Prog.pure_eq_ret, Prog.bind_assoc, wp_deviceId]
  simp only [s17_1]
  iintro ⟨#HR, #Hlev, HO, Hk, Ha, Hcont⟩
  iapply (wait_dma m ρ K c 11 [] (above_nil _) (dst := hi OM) rfl) $$ [HO Hk Ha]
  · isplitr; · iexact HR
    isplitr; · iexact Hlev
    isplitl [Hk]; · iexact Hk
    isplitl [HO]; · iexact HO
    iexact Ha
  iintro ⟨HO, Hz, HP⟩
  ihave HP := (show dmaPay m ρ c ((11 : Fin 16).val + 2) ⊢ iprop(hp (hi OM) fullShare c (mygC m ρ (opp c))) from BI.Entails.refl _) $$ HP
  icases HP with H
  first | rw [wp_ret] | rw [show ∀ {α : Type} (a : α) (Q : α → sProp 𝕄), run (F := F) c (.ret a) Q = _ from fun a Q => wp_ret ..]
  imodintro
  iapply (ret_entails Kt _ (v404 m ρ c) ?_)
  case _ => exact rfl
  iapply Hcont
  isplitl [HO]; · iexact HO
  isplitl [Hz]; · iexact Hz
  iexact H

set_option maxHeartbeats 1000000 in
/-- The thirteenth part reads the opposite device's second half. -/
theorem part13_spec (c : Dev nD) (Kt : _ → sProp 𝕄) :
    iprop(records m ρ K ∗ levAts L lv ∗ hp (hi OM) fullShare c (mygC m ρ (opp c)) ∗ ((hp (hi OM) fullShare c (mygC m ρ (opp c))) -∗ Kt (v444 m ρ c)))
      ⊢ run c (k0_part13 (Memref.whole main_arg0) (Memref.isWhole_whole _) (Memref.whole main_arg1) (Memref.isWhole_whole _) (Memref.whole main_arg2) (Memref.isWhole_whole _) (Memref.whole cc0_stg0_0) (Memref.isWhole_whole _) (Memref.whole main_arg4) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 (v87 m c) (ixC m c) (v107 m c) (Dev.word (opp c)) (v404 m ρ c)) Kt := by
  simp only [k0_part13_eq_skeleton]; unfold k0_part13_skel
  simp only [semSignalWord, semWaitWord, Prog.lift, Prog.bind_op, Prog.bind_ret, Prog.pure_eq_ret, Prog.bind_assoc, wp_deviceId]
  iintro ⟨#HR, #Hlev, H, Hcont⟩
  unfold hp
  iapply (wp_load 𝒱₀ (c : Thread nD τ) none Set.univ (m := OM) (View.set_slice OM.view _).ge) $$ H; iintro H
  first | rw [wp_ret] | rw [show ∀ {α : Type} (a : α) (Q : α → sProp 𝕄), run (F := F) c (.ret a) Q = _ from fun a Q => wp_ret ..]
  imodintro
  iapply (ret_entails Kt _ (v444 m ρ c) ?_)
  case _ => exact rfl
  iapply Hcont
  iexact H

set_option maxHeartbeats 1000000 in
/-- The fourteenth part waits for five of the six departures. -/
theorem part14_spec (c : Dev nD) (Kt : _ → sProp 𝕄) :
    iprop(records m ρ K ∗ levAts L lv ∗ owing c [] ∗ crd 0 c ∗ crd 1 c ∗ crd 2 c ∗ crd 3 c ∗ crd 4 c ∗ at0 0 c ∗ at0 1 c ∗ at0 2 c ∗ at0 3 c ∗ at0 4 c ∗ ((owing c [] ∗ zero 0 c ∗ zero 1 c ∗ zero 2 c ∗ zero 3 c ∗ zero 4 c ∗ hp (hi myM) fullShare.left c (mygC m ρ c) ∗ hp (lo myM) fullShare.left c (mygC m ρ c) ∗ hp (lo myM) fullShare.right c (mygC m ρ c) ∗ hp (hi myM) fullShare.right c (mygC m ρ c) ∗ hp (lo RM) fullShare.left c (mygC m ρ (rgt c))) -∗ Kt ⟨⟩))
      ⊢ run c (k0_part14 (Memref.whole main_arg0) (Memref.isWhole_whole _) (Memref.whole main_arg1) (Memref.isWhole_whole _) (Memref.whole main_arg2) (Memref.isWhole_whole _) (Memref.whole cc0_stg0_0) (Memref.isWhole_whole _) (Memref.whole main_arg4) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12) Kt := by
  simp only [k0_part14_eq_skeleton]; unfold k0_part14_skel
  simp only [semSignalWord, semWaitWord, Prog.lift, Prog.bind_op, Prog.bind_ret, Prog.pure_eq_ret, Prog.bind_assoc, wp_deviceId]
  simp only [s14_0, s14_1, s14_2, s14_3, s15_0]
  iintro ⟨#HR, #Hlev, HO, Hk0, Hk1, Hk2, Hk3, Hk4, Ha0, Ha1, Ha2, Ha3, Ha4, Hcont⟩
  iapply (wait_dma m ρ K c 0 [] (above_nil _) (dst := hi myM) rfl) $$ [HO Hk0 Ha0]
  · isplitr; · iexact HR
    isplitr; · iexact Hlev
    isplitl [Hk0]; · iexact Hk0
    isplitl [HO]; · iexact HO
    iexact Ha0
  iintro ⟨HO, Hz0, HP⟩
  ihave HP := (show dmaPay m ρ c ((0 : Fin 16).val + 2) ⊢ iprop(hp (hi myM) fullShare.left c (mygC m ρ c)) from BI.Entails.refl _) $$ HP
  icases HP with H0
  iapply (wait_dma m ρ K c 1 [] (above_nil _) (dst := lo myM) rfl) $$ [HO Hk1 Ha1]
  · isplitr; · iexact HR
    isplitr; · iexact Hlev
    isplitl [Hk1]; · iexact Hk1
    isplitl [HO]; · iexact HO
    iexact Ha1
  iintro ⟨HO, Hz1, HP⟩
  ihave HP := (show dmaPay m ρ c ((1 : Fin 16).val + 2) ⊢ iprop(hp (lo myM) fullShare.left c (mygC m ρ c)) from BI.Entails.refl _) $$ HP
  icases HP with H1
  iapply (wait_dma m ρ K c 2 [] (above_nil _) (dst := lo myM) rfl) $$ [HO Hk2 Ha2]
  · isplitr; · iexact HR
    isplitr; · iexact Hlev
    isplitl [Hk2]; · iexact Hk2
    isplitl [HO]; · iexact HO
    iexact Ha2
  iintro ⟨HO, Hz2, HP⟩
  ihave HP := (show dmaPay m ρ c ((2 : Fin 16).val + 2) ⊢ iprop(hp (lo myM) fullShare.right c (mygC m ρ c)) from BI.Entails.refl _) $$ HP
  icases HP with H2
  iapply (wait_dma m ρ K c 3 [] (above_nil _) (dst := hi myM) rfl) $$ [HO Hk3 Ha3]
  · isplitr; · iexact HR
    isplitr; · iexact Hlev
    isplitl [Hk3]; · iexact Hk3
    isplitl [HO]; · iexact HO
    iexact Ha3
  iintro ⟨HO, Hz3, HP⟩
  ihave HP := (show dmaPay m ρ c ((3 : Fin 16).val + 2) ⊢ iprop(hp (hi myM) fullShare.right c (mygC m ρ c)) from BI.Entails.refl _) $$ HP
  icases HP with H3
  iapply (wait_dma m ρ K c 4 [] (above_nil _) (dst := lo RM) rfl) $$ [HO Hk4 Ha4]
  · isplitr; · iexact HR
    isplitr; · iexact Hlev
    isplitl [Hk4]; · iexact Hk4
    isplitl [HO]; · iexact HO
    iexact Ha4
  iintro ⟨HO, Hz4, HP⟩
  ihave HP := (show dmaPay m ρ c ((4 : Fin 16).val + 2) ⊢ iprop(hp (lo RM) fullShare.left c (mygC m ρ (rgt c))) from BI.Entails.refl _) $$ HP
  icases HP with H4
  first | rw [wp_ret] | rw [show ∀ {α : Type} (a : α) (Q : α → sProp 𝕄), run (F := F) c (.ret a) Q = _ from fun a Q => wp_ret ..]
  imodintro
  iapply (ret_entails Kt _ ⟨⟩ ?_)
  case _ => exact rfl
  iapply Hcont
  isplitl [HO]; · iexact HO
  isplitl [Hz0]; · iexact Hz0
  isplitl [Hz1]; · iexact Hz1
  isplitl [Hz2]; · iexact Hz2
  isplitl [Hz3]; · iexact Hz3
  isplitl [Hz4]; · iexact Hz4
  isplitl [H0]; · iexact H0
  isplitl [H1]; · iexact H1
  isplitl [H2]; · iexact H2
  isplitl [H3]; · iexact H3
  iexact H4

end Cert.RingRun
-- ==== Proof.Body.lean ====
/-
# The body of the kernel

The parts strung together: from what the launch deals a device, through the whole body, to the result and every
semaphore back at zero.
-/
module

public import proofs.«01_k».proof.Proof.Parts1
public import proofs.«01_k».proof.Proof.Parts2
public import proofs.«01_k».proof.Proof.Parts3

@[expose] public section

noncomputable section

namespace Cert.RingRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Where device `c` stands on its own cells. -/
def places (c : Dev nD) : sProp 𝕄 :=
  iprop(atPos ER (barCell c) 0 ∅ 0 ∗ at0 0 c ∗ at0 1 c ∗ at0 2 c ∗ at0 3 c ∗ at0 4 c ∗ at0 5 c ∗ at0 6 c ∗ at0 7 c ∗ at0 8 c ∗ at0 9 c ∗ at0 10 c ∗ at0 11 c ∗ at0 12 c ∗ at0 13 c ∗ at0 14 c ∗ at0 15 c)
/-- The duties device `c` pays. -/
def payToks (c : Dev nD) : sProp 𝕄 :=
  iprop(dutyTok ER (barCell (lft c)) 0 true ∗ dutyTok ER (barCell (rgt c)) 0 false ∗ tok 0 c ∗ tok 1 c ∗ tok 2 c ∗ tok 3 c ∗ tok 4 c ∗ tok 5 c ∗ tok 6 (rgt c) ∗ tok 7 (rgt c) ∗ tok 8 (lft c) ∗ tok 9 (lft c) ∗ tok 10 (lft c) ∗ tok 11 (rgt c) ∗ tok 12 c ∗ tok 13 c ∗ tok 14 c ∗ tok 15 c)
/-- The credits device `c`'s waits spend that no operation of its own mints. -/
def landCreds (c : Dev nD) : sProp 𝕄 :=
  iprop(cred (tallyAt (barCell c) () 2) ∗ crd 6 c ∗ crd 7 c ∗ crd 8 c ∗ crd 9 c ∗ crd 10 c ∗ crd 11 c)
/-- The arrays the kernel copies for itself. -/
def arrays (c : Dev nD) : sProp 𝕄 :=
  iprop(wp' main_arg0 c (m ((c : Thread nD τ).loc main_arg0)) ∗ wp' main_arg1 c (m ((c : Thread nD τ).loc main_arg1)) ∗ wp' main_arg2 c (m ((c : Thread nD τ).loc main_arg2)) ∗ wp' main_arg4 c (m ((c : Thread nD τ).loc main_arg4)))
/-- The scratch buffers, each at some contents. -/
def scratch (c : Dev nD) : sProp 𝕄 :=
  iprop((∃ f, wp' cc0_scratch0 c f) ∗ (∃ f, wp' cc0_scratch1 c f) ∗ (∃ f, wp' cc0_scratch2 c f) ∗ (∃ f, wp' cc0_scratch3 c f) ∗ (∃ f, wp' cc0_scratch4 c f) ∗ (∃ f, wp' cc0_scratch5 c f) ∗ (∃ f, wp' cc0_scratch6 c f) ∗ (∃ f, wp' cc0_scratch7 c f))
/-- Every semaphore at zero. -/
def zeros (c : Dev nD) : sProp 𝕄 :=
  iprop(semVal (barCell c) 0 ∗ zero 0 c ∗ zero 1 c ∗ zero 2 c ∗ zero 3 c ∗ zero 4 c ∗ zero 5 c ∗ zero 6 c ∗ zero 7 c ∗ zero 8 c ∗ zero 9 c ∗ zero 10 c ∗ zero 11 c ∗ zero 12 c ∗ zero 13 c ∗ zero 14 c ∗ zero 15 c)

/-- What device `c`'s body starts from. -/
def start (c : Dev nD) : sProp 𝕄 :=
  iprop((∃ K, records m ρ K) ∗ places c ∗ payToks c ∗ landCreds c ∗ levAts L lv ∗ arrays m c)
def Φ₀ (c : Dev nD) : sProp 𝕄 := iprop(start m ρ c ∗ scratch c)
/-- What it leaves. -/
def Φ₁ (c : Dev nD) : sProp 𝕄 := iprop(arrays m c ∗ scratch c ∗ zeros c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => wstg m ρ c
    | ⟨1, _⟩ => outC m ρ c
  Φ t := match t with
    | ⟨0, _⟩ => Φ₀ m ρ c
    | ⟨_ + 1, _⟩ => Φ₁ m c
  q _ := fullShare
  owed t := match t with
    | ⟨0, _⟩ => owe (sig1 c)
    | ⟨_ + 1, _⟩ => owe []

abbrev t₀ : Fin cfg0.N := t0_0

theorem fetch_0 (t : Fin cfg0.N) : (cfg0.win 0).fetch t = true := by rw [fin_N0 t]; rfl

/-- A staging buffer holding `X`. -/
abbrev stg (c : Dev nD) (b : Ref sig .tc) (X : Buf (Elt F) ((c : Thread nD τ).loc b)) : sProp 𝕄 :=
  iprop(∃ f : Buf (Elt F) ((c : Thread nD τ).loc b), ⌜f = X⌝ ∗ (((c : Thread nD τ).loc b) ↦{fullShare} f))

def bodyPost (c : Dev nD) : sProp 𝕄 :=
  iprop(Φ₁ m c ∗ (dats m ρ 0 c).owesAt () t₀.succ ∗ stg c cc0_stg0_0 (wstg m ρ c) ∗ stg c cc0_stg1_0 (outC m ρ c))

/-- A landing buffer at any contents, as its two halves. -/
theorem some_L (c : Dev nD) : iprop(∃ f, wp' cc0_scratch1 c f) ⊢ iprop(some' (F := F) (lo LM) c ∗ some' (hi LM) c) := by
  unfold wp'
  iintro ⟨%f, H⟩
  ihave H2 := (halves_L fullShare c f).1 $$ H
  icases H2 with ⟨H1, H2⟩
  isplitl [H1]; · iexists f; iexact H1
  iexists f; iexact H2
theorem some_R (c : Dev nD) : iprop(∃ f, wp' cc0_scratch2 c f) ⊢ iprop(some' (F := F) (lo RM) c ∗ some' (hi RM) c) := by
  unfold wp'
  iintro ⟨%f, H⟩
  ihave H2 := (halves_R fullShare c f).1 $$ H
  icases H2 with ⟨H1, H2⟩
  isplitl [H1]; · iexists f; iexact H1
  iexists f; iexact H2
theorem some_O (c : Dev nD) : iprop(∃ f, wp' cc0_scratch3 c f) ⊢ iprop(some' (F := F) (lo OM) c ∗ some' (hi OM) c) := by
  unfold wp'
  iintro ⟨%f, H⟩
  ihave H2 := (halves_O fullShare c f).1 $$ H
  icases H2 with ⟨H1, H2⟩
  isplitl [H1]; · iexists f; iexact H1
  iexists f; iexact H2

theorem rd_o (f) : (Memref.whole cc0_stg1_0).view.readAt (Elt F) (Rect.unit (s := S1024x512) ![0, 0] ![1024, 512] inb_S1024x512_S1024x512_0_0).toLoadRect f = f :=
  Memref.readAt_unit_zero (Elt F) cc0_stg1_0 hz2 _ f
theorem wr_o (f w) : View.write (Elt F) ((Memref.whole cc0_stg1_0).access (Rect.unit (s := S1024x512) ![0, 0] ![1024, 512] inb_S1024x512_S1024x512_0_0)) f w Finset.univ = w :=
  Memref.write_access_unit_zero_univ (Elt F) cc0_stg1_0 hz2 _ f w

set_option maxHeartbeats 2000000 in
/-- The body, from what it starts with to the result. -/
theorem sound_body (K : Dev nD × Fin 17 → ℕ) (c : Dev nD) (Kt : PUnit → sProp 𝕄) (d1 : Buf (Elt F) ((c : Thread nD τ).loc cc0_stg1_0)) :
    iprop(records m ρ K ∗ places c ∗ payToks c ∗ landCreds c ∗ levAts L lv ∗ arrays m c ∗ scratch c ∗ owing c (sig1 c)
        ∗ wp' cc0_stg0_0 c (wstg m ρ c) ∗ wp' cc0_stg1_0 c d1
        ∗ ((Φ₁ m c ∗ owing c [] ∗ wp' cc0_stg0_0 c (wstg m ρ c) ∗ wp' cc0_stg1_0 c (outC m ρ c)) -∗ Kt ⟨⟩))
      ⊢ run c (cc0_body (Memref.whole main_arg0) (Memref.isWhole_whole _) (Memref.whole main_arg1) (Memref.isWhole_whole _) (Memref.whole main_arg2) (Memref.isWhole_whole _) (Memref.whole cc0_stg0_0) (Memref.isWhole_whole _) (Memref.whole main_arg4) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12) Kt := by
  simp only [cc0_body_eq_skeleton]; unfold cc0_body_skel run
  unfold places payToks landCreds arrays scratch
  iintro ⟨#HR, ⟨atB, at0, at1, at2, at3, at4, at5, at6, at7, at8, at9, at10, at11, at12, at13, at14, at15⟩, ⟨tBL, tBR, t0, t1, t2, t3, t4, t5, t6, t7, t8, t9, t10, t11, t12, t13, t14, t15⟩, ⟨cB, c6, c7, c8, c9, c10, c11⟩, #Hlev, ⟨A0, A1, A2, A4⟩,
    ⟨S0, S1, S2, S3, S4, S5, S6, S7⟩, HO, W, Hout, Hcont⟩
  ihave H2 := (some_L (F := F) c) $$ S1
  icases H2 with ⟨LL, LH⟩
  ihave H2 := (some_R (F := F) c) $$ S2
  icases H2 with ⟨RL, RH⟩
  ihave H2 := (some_O (F := F) c) $$ S3
  icases H2 with ⟨OL, OH⟩
  -- part 1
  rw [wp_bind]
  iapply (part1_spec m ρ K c _)
  isplitr; · iexact HR
  isplitr; · iexact Hlev
  isplitl [A0]; · iexact A0
  isplitl [A1]; · iexact A1
  isplitl [A2]; · iexact A2
  isplitl [A4]; · iexact A4
  isplitl [S4]; · iexact S4
  isplitl [S5]; · iexact S5
  isplitl [S6]; · iexact S6
  isplitl [S7]; · iexact S7
  isplitl [t12]; · iexact t12
  isplitl [t13]; · iexact t13
  isplitl [t14]; · iexact t14
  isplitl [t15]; · iexact t15
  iintro ⟨c12, c13, c14, c15⟩
  try dsimp only
  -- part 2
  rw [wp_bind]
  iapply (part2_spec m ρ K c _)
  isplitr; · iexact HR
  isplitr; · iexact Hlev
  isplitl [HO]; · iexact HO
  isplitl [tBL]; · iexact tBL
  isplitl [tBR]; · iexact tBR
  isplitl [LL]; · iexact LL
  isplitl [LH]; · iexact LH
  isplitl [RL]; · iexact RL
  isplitl [RH]; · iexact RH
  isplitl [OL]; · iexact OL
  isplitl [OH]; · iexact OH
  isplitl [cB]; · iexact cB
  isplitl [atB]; · iexact atB
  isplitl [W]; · iexact W
  isplitl [S0]; · iexact S0
  isplitl [t0]; · iexact t0
  isplitl [t6]; · iexact t6
  iintro ⟨HO, zB, W, c0, Mhr, Mll, Mlr, LL, OH, RL, RH, OL⟩
  try dsimp only
  -- part 3
  rw [wp_bind]
  iapply (part3_spec m ρ K c _)
  isplitr; · iexact HR
  isplitr; · iexact Hlev
  isplitl [HO]; · iexact HO
  isplitl [Mhr]; · iexact Mhr
  isplitl [Mll]; · iexact Mll
  isplitl [Mlr]; · iexact Mlr
  isplitl [LL]; · iexact LL
  isplitl [RL]; · iexact RL
  isplitl [RH]; · iexact RH
  isplitl [t1]; · iexact t1
  isplitl [t2]; · iexact t2
  isplitl [t3]; · iexact t3
  isplitl [t7]; · iexact t7
  isplitl [t8]; · iexact t8
  isplitl [t9]; · iexact t9
  isplitl [c12]; · iexact c12
  isplitl [c13]; · iexact c13
  isplitl [c14]; · iexact c14
  isplitl [at12]; · iexact at12
  isplitl [at13]; · iexact at13
  isplitl [at14]; · iexact at14
  iintro ⟨HO, c1, c2, c3, z12, z13, z14, A0, A1, A2, S4, S5, S6⟩
  try dsimp only
  -- part 4
  rw [wp_bind]
  iapply (part4_spec m ρ K c _)
  isplitr; · iexact HR
  isplitr; · iexact Hlev
  isplitl [HO]; · iexact HO
  isplitl [c15]; · iexact c15
  isplitl [at15]; · iexact at15
  isplitl [S4]; · iexact S4
  isplitl [S5]; · iexact S5
  isplitl [S6]; · iexact S6
  isplitl [W]; · iexact W
  iintro ⟨HO, z15, A4, S4, S5, S6, S7, W⟩
  try dsimp only
  -- part 5
  rw [wp_bind]
  iapply (part5_spec m ρ K c _)
  isplitr; · iexact HR
  isplitr; · iexact Hlev
  try dsimp only
  -- part 6
  rw [wp_bind]
  iapply (part6_spec m ρ K c _)
  isplitr; · iexact HR
  isplitr; · iexact Hlev
  isplitl [HO]; · iexact HO
  isplitl [c8]; · iexact c8
  isplitl [at8]; · iexact at8
  isplitl [OL]; · iexact OL
  isplitl [t4]; · iexact t4
  isplitl [t10]; · iexact t10
  iintro ⟨HO, z8, c4, RLr⟩
  try dsimp only
  -- part 7
  rw [wp_bind]
  iapply (part7_spec m ρ K c _)
  isplitr; · iexact HR
  isplitr; · iexact Hlev
  isplitl [HO]; · iexact HO
  isplitl [c6]; · iexact c6
  isplitl [at6]; · iexact at6
  isplitl [OH]; · iexact OH
  isplitl [t5]; · iexact t5
  isplitl [t11]; · iexact t11
  isplitl [RLr]; · iexact RLr
  iintro ⟨HO, z6, c5, RLr, LHr⟩
  try dsimp only
  -- part 8
  rw [wp_bind]
  iapply (part8_spec m ρ K c _)
  isplitr; · iexact HR
  isplitr; · iexact Hlev
  isplitl [LHr]; · iexact LHr
  iintro LHr
  try dsimp only
  -- part 9
  rw [wp_bind]
  iapply (part9_spec m ρ K c _)
  isplitr; · iexact HR
  isplitr; · iexact Hlev
  isplitl [HO]; · iexact HO
  isplitl [c9]; · iexact c9
  isplitl [at9]; · iexact at9
  iintro ⟨HO, z9, RH⟩
  try dsimp only
  -- part 10
  rw [wp_bind]
  iapply (part10_spec m ρ K c _)
  isplitr; · iexact HR
  isplitr; · iexact Hlev
  isplitl [HO]; · iexact HO
  isplitl [c7]; · iexact c7
  isplitl [at7]; · iexact at7
  iintro ⟨HO, z7, LL⟩
  try dsimp only
  -- part 11
  rw [wp_bind]
  iapply (part11_spec m ρ K c _)
  isplitr; · iexact HR
  isplitr; · iexact Hlev
  isplitl [HO]; · iexact HO
  isplitl [c10]; · iexact c10
  isplitl [at10]; · iexact at10
  iintro ⟨HO, z10, OL⟩
  try dsimp only
  -- part 12
  rw [wp_bind]
  iapply (part12_spec m ρ K c _)
  isplitr; · iexact HR
  isplitr; · iexact Hlev
  isplitl [HO]; · iexact HO
  isplitl [c11]; · iexact c11
  isplitl [at11]; · iexact at11
  iintro ⟨HO, z11, OH⟩
  try dsimp only
  -- part 13
  rw [wp_bind]
  iapply (part13_spec m ρ K c _)
  isplitr; · iexact HR
  isplitr; · iexact Hlev
  isplitl [OH]; · iexact OH
  iintro OH
  try dsimp only
  -- part 14
  rw [wp_bind]
  iapply (part14_spec m ρ K c _)
  isplitr; · iexact HR
  isplitr; · iexact Hlev
  isplitl [HO]; · iexact HO
  isplitl [c0]; · iexact c0
  isplitl [c1]; · iexact c1
  isplitl [c2]; · iexact c2
  isplitl [c3]; · iexact c3
  isplitl [c4]; · iexact c4
  isplitl [at0]; · iexact at0
  isplitl [at1]; · iexact at1
  isplitl [at2]; · iexact at2
  isplitl [at3]; · iexact at3
  isplitl [at4]; · iexact at4
  iintro ⟨HO, z0, z1, z2, z3, z4, Mhl, Mll, Mlr, Mhr, RLl⟩
  try dsimp only
  simp only [Prog.lift, Prog.bind_op, Prog.bind_ret, Prog.pure_eq_ret, Prog.bind_assoc, s15_1]
  iapply (wait_dma m ρ K c 5 [] (above_nil _) (dst := hi LM) rfl) $$ [HO c5 at5]
  · isplitr; · iexact HR
    isplitr; · iexact Hlev
    isplitl [c5]; · iexact c5
    isplitl [HO]; · iexact HO
    iexact at5
  iintro ⟨HO, z5, HP⟩
  ihave HP := (show dmaPay m ρ c ((5 : Fin 16).val + 2) ⊢ iprop(hp (hi LM) fullShare.left c (mygC m ρ (lft c))) from BI.Entails.refl _) $$ HP
  icases HP with LHl
  unfold wp'
  iapply (wp_load 𝒱₀ (c : Thread nD τ) none Set.univ (m := Memref.whole cc0_stg1_0) (Finset.subset_univ _)) $$ Hout; iintro Hout
  iapply (wp_store 𝒱₀ (c : Thread nD τ) none Set.univ (m := Memref.whole cc0_stg1_0) (r := Rect.unit (s := S1024x512) ![0, 0] ![1024, 512] inb_S1024x512_S1024x512_0_0) (Mk := Finset.univ) (Finset.subset_univ _)) $$ Hout; iintro Hout
  rw [wr_o]
  ihave Hout := (show (View.loc (c : Thread nD τ) ((Memref.whole cc0_stg1_0).access (Rect.unit (s := S1024x512) ![0, 0] ![1024, 512] inb_S1024x512_S1024x512_0_0))
    ↦{fullShare} k0_pay1 (v444 m ρ c)) ⊢ (((c : Thread nD τ).loc cc0_stg1_0) ↦{fullShare} outC m ρ c : sProp 𝕄) from BI.Entails.refl _) $$ Hout
  ihave Mh := (hp_share (hi myM) c (mygC m ρ c)).2 $$ [Mhl Mhr]
  · isplitl [Mhl] <;> iassumption
  ihave Ml := (hp_share (lo myM) c (mygC m ρ c)).2 $$ [Mll Mlr]
  · isplitl [Mll] <;> iassumption
  ihave S0 := (halves_my fullShare c (mygC m ρ c)).2 $$ [Ml Mh]
  · isplitl [Ml] <;> iassumption
  ihave LH := (hp_share (hi LM) c (mygC m ρ (lft c))).2 $$ [LHl LHr]
  · isplitl [LHl] <;> iassumption
  ihave S1 := (halves_L fullShare c (mygC m ρ (lft c))).2 $$ [LL LH]
  · isplitl [LL] <;> iassumption
  ihave RL := (hp_share (lo RM) c (mygC m ρ (rgt c))).2 $$ [RLl RLr]
  · isplitl [RLl] <;> iassumption
  ihave S2 := (halves_R fullShare c (mygC m ρ (rgt c))).2 $$ [RL RH]
  · isplitl [RL] <;> iassumption
  ihave S3 := (halves_O fullShare c (mygC m ρ (opp c))).2 $$ [OL OH]
  · isplitl [OL] <;> iassumption
  first | rw [wp_ret] | rw [show ∀ {α : Type} (a : α) (Q : α → sProp 𝕄), run (F := F) c (.ret a) Q = _ from fun a Q => wp_ret ..]
  imodintro
  iapply Hcont
  unfold Φ₁ arrays scratch zeros wp'
  isplitl [A0 A1 A2 A4 S0 S1 S2 S3 S4 S5 S6 S7 zB z0 z1 z2 z3 z4 z5 z6 z7 z8 z9 z10 z11 z12 z13 z14 z15]
  · isplitl [A0 A1 A2 A4]
    · isplitl [A0]; · iexact A0
      isplitl [A1]; · iexact A1
      isplitl [A2]; · iexact A2
      iexact A4
    isplitl [S0 S1 S2 S3 S4 S5 S6 S7]
    · isplitl [S0]; · iexists _; iexact S0
      isplitl [S1]; · iexists _; iexact S1
      isplitl [S2]; · iexists _; iexact S2
      isplitl [S3]; · iexists _; iexact S3
      isplitl [S4]; · iexists _; iexact S4
      isplitl [S5]; · iexists _; iexact S5
      isplitl [S6]; · iexists _; iexact S6
      iexists _; iexact S7
    isplitl [zB]; · iexact zB
    isplitl [z0]; · iexact z0
    isplitl [z1]; · iexact z1
    isplitl [z2]; · iexact z2
    isplitl [z3]; · iexact z3
    isplitl [z4]; · iexact z4
    isplitl [z5]; · iexact z5
    isplitl [z6]; · iexact z6
    isplitl [z7]; · iexact z7
    isplitl [z8]; · iexact z8
    isplitl [z9]; · iexact z9
    isplitl [z10]; · iexact z10
    isplitl [z11]; · iexact z11
    isplitl [z12]; · iexact z12
    isplitl [z13]; · iexact z13
    isplitl [z14]; · iexact z14
    iexact z15
  isplitl [HO]; · iexact HO
  isplitl [W]; · iexact W
  iexact Hout

set_option maxRecDepth 4000 in
def bodyPre (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
theorem body_obligation (c : Dev nD) : BodyObligation (dats (F := F) m ρ 0 c) (defs₀ (F := F)) 𝒱₀ () Set.univ := fun t => by
  rw [fin_N0 t]
  rw [show ∀ Φ : Fin cfg0.W → sProp 𝕄, bigSep Finset.univ Φ = iprop(Φ (0 : Fin 2) ∗ Φ (1 : Fin 2)) from bigSep_W0,
    show ∀ Φ : Fin cfg0.W → sProp 𝕄, bigSep Finset.univ Φ = iprop(Φ (0 : Fin 2) ∗ Φ (1 : Fin 2)) from bigSep_W0]
  simp only [owns_whole_eq]
  show bodyPre m ρ c ⊢ run c (cc0_body (Memref.whole main_arg0) (Memref.isWhole_whole _) (Memref.whole main_arg1) (Memref.isWhole_whole _) (Memref.whole main_arg2) (Memref.isWhole_whole _) (Memref.whole cc0_stg0_0) (Memref.isWhole_whole _) (Memref.whole main_arg4) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12) (fun _ => bodyPost m ρ c)
  unfold bodyPre Φ₀ start
  iintro ⟨⟨⟨⟨%K, HR⟩, Hpl, Htk, Hcr, Hlev, Har⟩, Hsc⟩, Ho, ⟨%d0, %g0, %hg0, HW⟩, ⟨%d1, %g1, %hg1, Hout⟩⟩
  have hx : g0 = wstg m ρ c := by rw [hg0]; unfold Dat.before; rw [if_pos (fetch_0 t₀)]; rfl
  subst hx
  unfold Dat.owesAt Pipeline.owesWithin
  icases Ho with ⟨%W, %hW, HO⟩
  iapply (sound_body m ρ K c (fun _ => bodyPost m ρ c) g1)
  isplitl [HR]; · iexact HR
  isplitl [Hpl]; · iexact Hpl
  isplitl [Htk]; · iexact Htk
  isplitl [Hcr]; · iexact Hcr
  isplitl [Hlev]; · iexact Hlev
  isplitl [Har]; · iexact Har
  isplitl [Hsc]; · iexact Hsc
  isplitl [HO]; · unfold owing; iexists W; iexact HO
  isplitl [HW]; · unfold wp'; iexact HW
  isplitl [Hout]; · unfold wp'; iexact Hout
  unfold owing wp'
  iintro ⟨HΦ, ⟨%W', HO⟩, HW, Hout⟩
  unfold bodyPost Dat.owesAt Pipeline.owesWithin
  isplitl [HΦ]; · iexact HΦ
  isplitl [HO]
  · iexists W'
    isplitr; · ipureintro; exact fun _ _ => Or.inl trivial
    iexact HO
  isplitl [HW]
  · iexists _; isplitr; · (ipureintro; rfl)
    iexact HW
  iexists _; isplitr; · (ipureintro; rfl)
  iexact Hout

end Cert.RingRun
-- ==== Proof.Launch.lean ====
/-
# The launch

What the launch deals every device, how the duties go round the ring, and the whole run: it ends, each device's result
is the value computed, its arguments are unchanged and every semaphore is at zero.
-/
module

public import proofs.«01_k».proof.Proof.Body
public import Idealize.ShloMosaic.Lib.Pipeline.CollectiveSegs

@[expose] public section

noncomputable section

namespace Cert.RingRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

/-! ## The cells and their duties -/

theorem ksem_injective : Function.Injective (ksem : Fin 17 → SemLoc sig) := by decide
theorem kcell_injective : Function.Injective (kcell : Dev nD × Fin 17 → GSem nD τ sig) := by
  rintro ⟨c, k⟩ ⟨c', k'⟩ h
  obtain rfl : c = c' := congrArg (fun g : GSem nD τ sig => g.1.1) h
  obtain rfl : k = k' := ksem_injective (congrArg Prod.snd h)
  rfl
def ringCells : Finset (GSem nD τ sig) := Finset.univ.map ⟨kcell, kcell_injective⟩

/-- The duties of a device's own cells: one for every cell, and a second one for its barrier. -/
abbrev dutyOf (cj : Dev nD × Fin 18) : GSem nD τ sig × ℕ × Bool :=
  if h : cj.2.val < 17 then (kcell (cj.1, ⟨cj.2.val, h⟩), 0, false) else (barCell cj.1, 0, true)
theorem dutyOf_injective : Function.Injective dutyOf := by
  rintro ⟨c, j⟩ ⟨c', j'⟩ h
  unfold dutyOf at h
  have hj := j.isLt
  have hj' := j'.isLt
  by_cases h1 : j.val < 17 <;> by_cases h2 : j'.val < 17 <;> simp only [h1, h2, dif_pos, dif_neg, not_false_eq_true] at h
  · have e := kcell_injective (congrArg Prod.fst h)
    exact Prod.ext (congrArg (fun x : Dev nD × Fin 17 => x.1) e) (Fin.ext (by have := congrArg (fun x : Dev nD × Fin 17 => x.2.val) e; exact this))
  · exact absurd (show false = true from congrArg (fun x : GSem nD τ sig × ℕ × Bool => x.2.2) h) (by decide)
  · exact absurd (show true = false from congrArg (fun x : GSem nD τ sig × ℕ × Bool => x.2.2) h) (by decide)
  · exact Prod.ext (congrArg (fun x : GSem nD τ sig × ℕ × Bool => x.1.1.1) h) (Fin.ext (show j.val = j'.val by omega))
def ringToks : Finset (GSem nD τ sig × ℕ × Bool) := Finset.univ.map ⟨dutyOf, dutyOf_injective⟩

def u₀ : UU :=
  (initOf (Pipeline.cells cfgs cellOf_inj) (Pipeline.launchToks cfgs cellOf_inj), initOf ringCells ringToks)

/-- The duty tokens of device `c`'s own cells. -/
def ownToks (c : Dev nD) : sProp 𝕄 := iprop(dutyTok ER (barCell c) 0 false ∗ tok 0 c ∗ tok 1 c ∗ tok 2 c ∗ tok 3 c ∗ tok 4 c ∗ tok 5 c ∗ tok 6 c ∗ tok 7 c ∗ tok 8 c ∗ tok 9 c ∗ tok 10 c ∗ tok 11 c ∗ tok 12 c ∗ tok 13 c ∗ tok 14 c ∗ tok 15 c ∗ dutyTok ER (barCell c) 0 true)

theorem ownToks_eq (c : Dev nD) : (bigSep Finset.univ fun j : Fin 18 => dutyTok ER (dutyOf (c, j)).1 (dutyOf (c, j)).2.1 (dutyOf (c, j)).2.2) = (ownToks c : sProp 𝕄) := by
  rw [bigSep_univ_eq_bigSepL [0, 1, 2, 3, 4, 5, 6, 7, 8, 9, 10, 11, 12, 13, 14, 15, 16, 17] (by decide) (by decide)]; rfl
theorem places_eq (c : Dev nD) : (bigSep Finset.univ fun k : Fin 17 => atPos ER (kcell (c, k)) 0 ∅ 0) = (places c : sProp 𝕄) := by
  rw [bigSep_univ_eq_bigSepL [0, 1, 2, 3, 4, 5, 6, 7, 8, 9, 10, 11, 12, 13, 14, 15, 16] (by decide) (by decide)]; rfl

/-- What the launch deals device `c`. -/
def G (c : Dev nD) : sProp 𝕄 :=
  iprop((bigSep Finset.univ fun k : Fin 17 => roundState ER (ringRd m ρ) (kcell (c, k)) 0)
    ∗ (bigSep Finset.univ fun k : Fin 17 => iprop(atPos ER (kcell (c, k)) 0 ∅ 0 ∗ reached ER (kcell (c, k)) 0)) ∗ ownToks c)

/-- What the global step makes of it. -/
def G' (c : Dev nD) : sProp 𝕄 := iprop((∃ K, records m ρ K) ∗ places c ∗ payToks c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 17 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => ownToks c := by
    unfold ringToks; rw [bigSep_map, bigSep_univ_prod]
    exact bigSep_congr fun c _ => ownToks_eq c
  iintro HX
  imod (Rounds.fund ER (ringRd m ρ) ringCells ringToks) $$ HX with ⟨Hst, Hr, Hat, Htok⟩
  imodintro
  ihave Hst' := (Entails.of_eq (hX fun g => roundState ER (ringRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores -/

theorem ownSems0_eq (c : Dev nD) : (Pipeline.ownSems0 (Ix := Unit) (Name := ℕ) (U := UU) (Lvl := ℕ) (Val := Elt F) (τ := τ) osem c : sProp 𝕄)
    = iprop(zero 0 c ∗ zero 1 c ∗ zero 2 c ∗ zero 3 c ∗ zero 4 c ∗ zero 5 c ∗ zero 6 c ∗ zero 7 c ∗ zero 8 c ∗ zero 9 c ∗ zero 10 c ∗ zero 11 c ∗ zero 12 c ∗ zero 13 c ∗ zero 14 c ∗ zero 15 c) := by
  rw [Pipeline.ownSems0_eq_of_list c osem [0, 1, 2, 3, 4, 5, 6, 7, 8, 9, 10, 11, 12, 13, 14, 15] (by decide) (by decide)]; rfl
theorem unscopedSems0_eq (c : Dev nD) : (unscopedSems0 c : sProp 𝕄) = semVal (barCell c) 0 := by
  unfold unscopedSems0; rw [bigSep_eq_bigSepL_of_eq [SemLoc.reg barS.sem] (by decide) (by decide)]; rfl
theorem sems0_eq (c : Dev nD) : (bigSep Finset.univ fun k : Fin 17 => semVal (kcell (c, k)) 0 : sProp 𝕄) = zeros c := by
  rw [bigSep_univ_eq_bigSepL [0, 1, 2, 3, 4, 5, 6, 7, 8, 9, 10, 11, 12, 13, 14, 15, 16] (by decide) (by decide)]; rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (ringRd m ρ) κ (kcell (c, k))))
          ∗ (bigSep Finset.univ fun k => iprop(atPos ER (kcell (c, k)) 0 ∅ 0 ∗ reached ER (kcell (c, k)) 0)) ∗ ownToks c) := by
  unfold G
  rw [ownSems0_eq, unscopedSems0_eq]
  iintro ⟨Hos, Hus, Hst, Hat, Htok⟩
  ihave Hv := (Entails.of_eq (sems0_eq (F := F) c).symm) $$ [Hos Hus]
  · unfold zeros; isplitl [Hus] <;> iassumption
  imod (show iprop((bigSep Finset.univ fun k : Fin 17 => semVal (kcell (c, k)) 0) ∗ bigSep Finset.univ fun k : Fin 17 => roundState ER (ringRd m ρ) (kcell (c, k)) 0)
      ⊢ (|={Set.univ}=> bigSep Finset.univ fun k => iprop(∃ κ : ℕ, cellInv ER (ringRd m ρ) κ (kcell (c, k))) : sProp 𝕄) from by
        rw [← bigSep_sep']
        exact (bigSep_mono fun k _ => (Rounds.body_intro ER (ringRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- One step to the left round the ring, and back. -/
def ringL : Dev nD ≃ Dev nD := ⟨lft, rgt, rgt_lft, lft_rgt⟩

/-- The duties dealt round the ring: every device gets those that it pays. -/
theorem toks_around : (bigSep Finset.univ fun c : Dev nD => (ownToks c : sProp 𝕄)) ⊢ bigSep Finset.univ fun c : Dev nD => payToks c := by
  have hl (Φ : Dev nD → sProp 𝕄) : bigSep Finset.univ Φ ⊢ bigSep Finset.univ fun c => Φ (lft c) := Entails.of_eq (bigSep_univ_equiv ringL Φ)
  have hr (Φ : Dev nD → sProp 𝕄) : bigSep Finset.univ Φ ⊢ bigSep Finset.univ fun c => Φ (rgt c) := Entails.of_eq (bigSep_univ_equiv ringL.symm Φ)
  unfold ownToks payToks
  simp only [bigSep_sep']
  iintro ⟨HF, H0, H1, H2, H3, H4, H5, H6, H7, H8, H9, H10, H11, H12, H13, H14, H15, HT⟩
  isplitl [HT]; · iapply (hl fun c => dutyTok ER (barCell c) 0 true); iexact HT
  isplitl [HF]; · iapply (hr fun c => dutyTok ER (barCell c) 0 false); iexact HF
  isplitl [H0]; · iexact H0
  isplitl [H1]; · iexact H1
  isplitl [H2]; · iexact H2
  isplitl [H3]; · iexact H3
  isplitl [H4]; · iexact H4
  isplitl [H5]; · iexact H5
  isplitl [H6]; · iapply (hr fun c => tok 6 c); iexact H6
  isplitl [H7]; · iapply (hr fun c => tok 7 c); iexact H7
  isplitl [H8]; · iapply (hl fun c => tok 8 c); iexact H8
  isplitl [H9]; · iapply (hl fun c => tok 9 c); iexact H9
  isplitl [H10]; · iapply (hl fun c => tok 10 c); iexact H10
  isplitl [H11]; · iapply (hr fun c => tok 11 c); iexact H11
  isplitl [H12]; · iexact H12
  isplitl [H13]; · iexact H13
  isplitl [H14]; · iexact H14
  iexact H15

theorem persistent_into {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (ringRd m ρ) κ (kcell (c, k))))
          ∗ (bigSep Finset.univ fun k => iprop(atPos ER (kcell (c, k)) 0 ∅ 0 ∗ reached ER (kcell (c, k)) 0)) ∗ ownToks c) : sProp 𝕄)
      ⊢ bigSep Finset.univ (G' m ρ) := by
  rw [bigSep_sep', bigSep_sep', ← bigSep_univ_prod (fun ck : Dev nD × Fin 17 => iprop(∃ κ : ℕ, cellInv ER (ringRd m ρ) κ (kcell ck))),
    bigSep_congr (s := Finset.univ) (fun (c : Dev nD) _ => bigSep_sep' Finset.univ (fun k : Fin 17 => (atPos ER (kcell (c, k)) 0 ∅ 0 : sProp 𝕄)) (fun k => reached ER (kcell (c, k)) 0)),
    bigSep_sep', ← bigSep_univ_prod (fun ck : Dev nD × Fin 17 => (reached ER (kcell ck) 0 : sProp 𝕄))]
  iintro ⟨HI, ⟨Hat, #HR⟩, Htok⟩
  ihave HK := (BI.bigSep_exists_pi Finset.univ (fun (ck : Dev nD × Fin 17) (κ : ℕ) => (cellInv ER (ringRd m ρ) κ (kcell ck) : sProp 𝕄))) $$ HI
  icases HK with ⟨%K, #HI⟩
  ihave Htk := (toks_around (F := F)) $$ Htok
  iapply (persistent_into (R := records m ρ K) (Φ := fun c => iprop(places c ∗ payToks c)) (Ψ := G' m ρ) fun c _ => by
    unfold G'
    iintro ⟨H, Hp⟩
    isplitl [H]; · iexists K; iexact H
    iexact Hp)
  isplitr
  · unfold records; isplitl; · iexact HI
    iexact HR
  · rw [bigSep_sep']
    isplitl [Hat]
    · iapply (show (bigSep Finset.univ fun c : Dev nD => bigSep Finset.univ fun k : Fin 17 => (atPos ER (kcell (c, k)) 0 ∅ 0 : sProp 𝕄)) ⊢ bigSep Finset.univ fun c : Dev nD => places c from
        bigSep_mono fun (c : Dev nD) _ => Entails.of_eq (places_eq (F := F) c)); iexact Hat
    iexact Htk

/-- The step at the launch that takes the semaphores of all devices at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credits -/

/-- One debt, owed by every device to a neighbour in the same direction, gives every device a credit. -/
theorem peel (l : Dev nD → List Debt) (f finv : Dev nD → Dev nD) (sm : SemLoc sig) (n : ℕ) (h1 : ∀ c, f (finv c) = c) (h2 : ∀ d, finv (f d) = d) (c : Dev nD) :
    (Pipeline.launchCred (fun d => owe ((f d, sm, n) :: l d)) c : sProp 𝕄)
      ⊢ iprop(Pipeline.launchCred (fun d => owe (l d)) c ∗ cred (tallyAt ((c : Thread nD τ), sm) () n)) := by
  rw [show (fun d => owe ((f d, sm, n) :: l d)) = fun d => owe (l d) + tallyAt ((f d : Thread nD τ), sm) () n from rfl, Pipeline.launchCred_add]
  exact sep_mono_right (Pipeline.launchCred_tallyAt sm f finv h1 h2 () n c)

theorem creds (c : Dev nD) : (Pipeline.launchCred (fun d => owe (sig1 d)) c : sProp 𝕄) ⊢ landCreds c := by
  iintro H
  ihave H := (peel (F := F) sig2 lft rgt _ 1 lft_rgt rgt_lft c) $$ H
  icases H with ⟨H, HB1⟩
  ihave H := (peel (F := F) snd1 rgt lft _ 1 rgt_lft lft_rgt c) $$ H
  icases H with ⟨H, HB2⟩
  ihave H := (peel (F := F) snd2 rgt lft _ N rgt_lft lft_rgt c) $$ H
  icases H with ⟨H, H6⟩
  ihave H := (peel (F := F) snd3 lft rgt _ N lft_rgt rgt_lft c) $$ H
  icases H with ⟨H, H8⟩
  ihave H := (peel (F := F) snd4 rgt lft _ N rgt_lft lft_rgt c) $$ H
  icases H with ⟨H, H7⟩
  ihave H := (peel (F := F) fwd1 lft rgt _ N lft_rgt rgt_lft c) $$ H
  icases H with ⟨H, H9⟩
  ihave H := (peel (F := F) fwd2 lft rgt _ N lft_rgt rgt_lft c) $$ H
  icases H with ⟨H, H10⟩
  ihave H := (peel (F := F) (fun _ => []) rgt lft _ N rgt_lft lft_rgt c) $$ H
  icases H with ⟨H, H11⟩
  iclear H
  unfold landCreds
  isplitl [HB1 HB2]
  · iapply (show iprop(cred (tallyAt (barCell c) () 1) ∗ cred (tallyAt (barCell c) () 1)) ⊢ (cred (tallyAt (barCell c) () 2) : sProp 𝕄) from by
      rw [show (2 : ℕ) = 1 + 1 from rfl, ← tallyAt_add]; exact (cred_add _ _).2)
    isplitl [HB1] <;> iassumption
  isplitl [H6]; · iexact H6
  isplitl [H7]; · iexact H7
  isplitl [H8]; · iexact H8
  isplitl [H9]; · iexact H9
  isplitl [H10]; · iexact H10
  iexact H11

/-! ## Into and out of the body -/

theorem start_intro (c : Dev nD) :
    iprop(Pipeline.unscopedRestP Pipeline.Prefetch.none cfg0.spec c (fun b => m ((c : Thread nD τ).loc b)) ∗ levAts L lv
        ∗ Pipeline.launchCred (fun d => owe (sig1 d)) c ∗ prngReg c (ρ c) ∗ G' m ρ c)
      ⊢ |={Set.univ}=> iprop(start m ρ c ∗ emp) := by
  rw [Pipeline.unscopedRestP_none, unscopedRest0_eq]
  iintro ⟨Har, Hlev, Hcr, -, HG⟩
  ihave Hc := (creds (F := F) c) $$ Hcr
  imodintro
  unfold start G' arrays wp'
  icases HG with ⟨HR, Hp, Ht⟩
  isplitl
  · isplitl [HR]; · iexact HR
    isplitl [Hp]; · iexact Hp
    isplitl [Ht]; · iexact Ht
    isplitl [Hc]; · iexact Hc
    isplitl [Hlev]; · iexact Hlev
    iexact Har
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch wp'
  iintro ⟨Hs, -, Hr⟩
  isplitl [Hs]; · iexact Hs
  iexact Hr

theorem phi1_exit (c : Dev nD) :
    (dats m ρ 0 c).Φ (Fin.last cfg0.N) ⊢ iprop((unscopedSems0 c ∗ arrays m c) ∗ Pipeline.ownSems0 osem c ∗ Pipeline.scopedRest cfg0.spec c) := by
  rw [show (dats m ρ 0 c).Φ (Fin.last cfg0.N) = Φ₁ m c from rfl, scopedRest0_eq, ownSems0_eq, unscopedSems0_eq]
  unfold Φ₁ zeros scratch wp'
  iintro ⟨Har, Hr, HzB, Hz⟩
  isplitl [HzB Har]
  · isplitl [HzB] <;> iassumption
  isplitl [Hz]; · iexact Hz
  iexact Hr

theorem stage_level (w : Fin cfg0.W) (s : Fin (cfg0.win w).nbuf) : slv (.dma ((cfg0.win w).sem s)) = 0 := by
  fin_cases w <;> fin_cases s <;> rfl

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait c _ (sig1 c) (by rw [stage_level w s]; exact above_sig1 c)
    · exact mayWait c _ [] (above_nil _)

/-- The arrays that the kernel copies for itself, read off the final state. -/
theorem arrays_read (c : Dev nD) (s' : Phys nD τ sig (Elt F)) :
    iprop(arrays m c ∗ SI s') ⊢ (iprop(⌜∀ b ∈ ({main_arg0, main_arg1, main_arg2, main_arg4} : Finset (Ref sig .tc)), s'.mem.mem ((c : Thread nD τ).loc b) = m ((c : Thread nD τ).loc b)⌝ ∗ SI s') : sProp 𝕄) := by
  rw [← show bigSep ({main_arg0, main_arg1, main_arg2, main_arg4} : Finset (Ref sig .tc)) (fun b => (((c : Thread nD τ).loc b) ↦{fullShare} m ((c : Thread nD τ).loc b) : sProp 𝕄)) = arrays m c from by
    rw [bigSep_eq_bigSepL_of_eq [main_arg0, main_arg1, main_arg2, main_arg4] (by decide) (by decide)]; rfl]
  exact pointsTo_read_all _ (fun b => (c : Thread nD τ).loc b) (fun b => m ((c : Thread nD τ).loc b)) s'

theorem share_eq (c : Dev nD) (w : Fin cfg0.W) : (dats m ρ 0 c).share w = fullShare := by unfold Dat.share; split <;> rfl

/-! ## The run -/

/-- What the run leaves: the windows' arrays as computed, the other arguments as they were, every semaphore at zero. -/
def Ends (r : PUnit × MemSt nD τ sig (Elt F)) : Prop :=
  (∀ c : Dev nD, (∀ w : Fin cfg0.W, r.2.mem ((cfg0.win w).arr.view.loc (c : Thread nD τ)) = (dats m ρ 0 c).arrAt w cfg0.N)
    ∧ ∀ b ∈ ({main_arg0, main_arg1, main_arg2, main_arg4} : Finset (Ref sig .tc)), r.2.mem ((c : Thread nD τ).loc b) = m ((c : Thread nD τ).loc b))
  ∧ r.2.sem = fun _ => 0

set_option maxRecDepth 8000 in
/-- From any memory with every semaphore at zero, for any reading of floats, every fair run of the four devices ends as
    `Ends` says. -/
theorem run_main : θ_run defs (onTc (τ := τ) (main (F := F))) (s₀ m ρ) (Ends m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => owe (sig1 d)) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => iprop(unscopedSems0 c ∗ arrays m c)) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ ∀ b ∈ ({main_arg0, main_arg1, main_arg2, main_arg4} : Finset (Ref sig .tc)), s.mem ((c : Thread nD τ).loc b) = m ((c : Thread nD τ).loc b))
    (hY := fun c s' => by
      iintro ⟨⟨Hu, Ha⟩, -, HSI⟩
      ihave H := (arrays_read m c s') $$ [Ha HSI]
      · isplitl [Ha] <;> iassumption
      icases H with ⟨%h2, HSI⟩
      imod (Pipeline.unscopedSems0_read (X := unscopedSems0 c) (c := c) fupd_intro s') $$ [Hu HSI] with ⟨%h1, HSI⟩
      · isplitl [Hu] <;> iassumption
      imodintro
      isplitr; · ipureintro; exact ⟨h1, h2⟩
      iexact HSI)
    (hQ := fun _ h hs => ⟨fun c => ⟨(h c).1, (h c).2.2.2⟩, sem_eq_zero hs fun c => (h c).2.2.1⟩)

/-- A device's experts after the run are what they were. -/
theorem experts_kept (c : Dev nD) : (dats m ρ 0 c).arrAt (0 : Fin 2) cfg0.N = m ((c : Thread nD τ).loc main_arg3) :=
  (dats (F := F) m ρ 0 c).arrAt_in (0 : Fin 2) rfl _

end Cert.RingRun
-- ==== Proof.Reals.lean ====
/- The arithmetic over the extended reals on which the equation rests: a softmax of finite scores is a nonnegative real, a
   nonnegative real may be moved through a sum, and of sixteen terms that are each zero unless the routing choice names them at most
   one is left. Nothing here speaks of the programs. -/
module

public import Idealize.ShloMosaic.PureOps.Ideal
public import Idealize.ShloMosaic.Lib.IdealHost

@[expose] public section

noncomputable section

namespace Cert.Reals

open Idealize.ShloMosaic

/-! ## The softmax of a row of scores -/

/-- The largest score. -/
def top (s : Fin 16 → EReal) : EReal := (Finset.univ : Finset (Fin 16)).fold max ⊥ s

/-- The softmax of the scores, at one coordinate. -/
def soft (s : Fin 16 → EReal) (e : Fin 16) : EReal :=
  Ideal.div (Ideal.exp (s e - top s)) (∑ j, Ideal.exp (s j - top s))

/-- The largest of finite scores is finite. -/
theorem top_real (f : Fin 16 → ℝ) : ∃ t : ℝ, top (fun j => (f j : EReal)) = t := by
  have h := Finset.exists_mem_eq_sup (Finset.univ : Finset (Fin 16)) ⟨0, Finset.mem_univ _⟩ (fun j => (f j : EReal))
  obtain ⟨i, -, hi⟩ := h
  exact ⟨f i, hi⟩

/-- A sum of reals, taken in the extended reals. -/
theorem sum_real {n : ℕ} (f : Fin n → ℝ) : ∑ j, (f j : EReal) = ((∑ j, f j : ℝ) : EReal) := by
  induction (Finset.univ : Finset (Fin n)) using Finset.cons_induction with
  | empty => simp
  | cons a t ha ih => rw [Finset.sum_cons, Finset.sum_cons, ih, EReal.coe_add]

/-- The softmax of finite scores is a nonnegative real. -/
theorem soft_real (s : Fin 16 → EReal) (hs : ∀ j, ∃ r : ℝ, s j = r) (e : Fin 16) : ∃ r : ℝ, 0 ≤ r ∧ soft s e = r := by
  choose f hf using hs
  obtain rfl : s = fun j => (f j : EReal) := funext hf
  obtain ⟨t, ht⟩ := top_real f
  have he : ∀ j, Ideal.exp ((f j : EReal) - (t : EReal)) = ((Real.exp (f j - t) : ℝ) : EReal) := fun j => by
    rw [← EReal.coe_sub]; rfl
  have hpos : 0 < ∑ j, Real.exp (f j - t) := Finset.sum_pos (fun j _ => Real.exp_pos _) ⟨0, Finset.mem_univ _⟩
  refine ⟨Real.exp (f e - t) * (∑ j, Real.exp (f j - t))⁻¹, by positivity, ?_⟩
  unfold soft
  rw [ht]
  simp only [he]
  rw [sum_real]
  unfold Ideal.div
  rw [if_neg (by exact_mod_cast hpos.ne'), ← EReal.coe_inv, ← EReal.coe_mul]

/-- A sum of products of finite numbers is finite. -/
theorem dot_real {n : ℕ} (x w : Fin n → EReal) (hx : ∀ k, ∃ r : ℝ, x k = r) (hw : ∀ k, ∃ r : ℝ, w k = r) :
    ∃ r : ℝ, ∑ k, x k * w k = r := by
  choose f hf using hx
  choose g hg using hw
  refine ⟨∑ k, f k * g k, ?_⟩
  rw [← sum_real]
  exact Finset.sum_congr rfl fun k _ => by rw [hf, hg, EReal.coe_mul]

/-! ## A coefficient and a sum -/

/-- A nonnegative real is moved through a sum. -/
theorem mul_sum_real {n : ℕ} (c : ℝ) (hc : 0 ≤ c) (f : Fin n → EReal) : (c : EReal) * ∑ k, f k = ∑ k, (c : EReal) * f k := by
  induction (Finset.univ : Finset (Fin n)) using Finset.cons_induction with
  | empty => simp
  | cons a t ha ih =>
    rw [Finset.sum_cons, Finset.sum_cons, EReal.left_distrib_of_nonneg_of_ne_top (by exact_mod_cast hc) (EReal.coe_ne_top c), ih]

/-- The coefficient multiplied into the tokens, with a scale on it and the inverse scale on the weights, is the coefficient
    times the product. -/
theorem scaled_dot {n : ℕ} (x w : Fin n → EReal) (c : ℝ) (hc : 0 ≤ c) (s t : EReal) (hst : s * t = 1) :
    ∑ k, x k * ((c : EReal) * s) * (w k * t) = (c : EReal) * ∑ k, x k * w k := by
  rw [mul_sum_real c hc]
  refine Finset.sum_congr rfl fun k _ => ?_
  calc x k * ((c : EReal) * s) * (w k * t) = (c : EReal) * (x k * w k) * (s * t) := by ac_rfl
    _ = (c : EReal) * (x k * w k) := by rw [hst, mul_one]

/-! ## The two scales -/

/-- The word for sixteen. -/
theorem word_sixteen : Ideal.ofBits .f32 0x41800000#32 = ((16 : ℝ) : EReal) := by
  simp [Ideal.ofBits, Ideal.ieee, -EReal.coe_mul]; norm_num

/-- The word for a sixteenth. -/
theorem word_sixteenth : Ideal.ofBits .f32 0x3D800000#32 = ((1 / 16 : ℝ) : EReal) := by
  simp [Ideal.ofBits, Ideal.ieee, -EReal.coe_mul]; norm_num

/-- They cancel. -/
theorem scales_cancel : Ideal.ofBits .f32 0x3D800000#32 * Ideal.ofBits .f32 0x41800000#32 = (1 : EReal) := by
  rw [word_sixteen, word_sixteenth, ← EReal.coe_mul]; norm_num

/-- The word for minus infinity. -/
theorem word_bot : Ideal.ofBits .f32 0xFF800000#32 = (⊥ : EReal) := by
  simp [Ideal.ofBits, Ideal.ieee]

/-! ## Sixteen terms -/

/-- The terms of the experts, each with a coefficient that is zero unless the choice names it, where the choice names
    expert `g`. -/
theorem sum_named (p : EReal) (D : Fin 16 → EReal) (w : BitVec 32) (g : Fin 16) (hw : w = BitVec.ofNat 32 g.val) :
    ∑ e : Fin 16, (if w = BitVec.ofNat 32 e.val then p else 0) * D e = p * D g := by
  rw [Finset.sum_eq_single g]
  · rw [if_pos hw]
  · intro e _ hne
    rw [if_neg, zero_mul]
    rintro rfl
    apply hne
    have h := congrArg BitVec.toNat hw
    rw [BitVec.toNat_ofNat, BitVec.toNat_ofNat] at h
    apply Fin.ext
    omega
  · exact fun h => absurd (Finset.mem_univ _) h

/-- The same where the choice names none of the sixteen. -/
theorem sum_unnamed (p : EReal) (D : Fin 16 → EReal) (w : BitVec 32) (hw : ∀ g : Fin 16, w ≠ BitVec.ofNat 32 g.val) :
    ∑ e : Fin 16, (if w = BitVec.ofNat 32 e.val then p else 0) * D e = 0 :=
  Finset.sum_eq_zero fun e _ => by rw [if_neg (hw e), zero_mul]

/-- A sum over a row of sixteen that keeps only the choice's coordinate, where the choice names coordinate `g`. -/
theorem pick_named (q : Fin 16 → EReal) (w : BitVec 32) (g : Fin 16) (hw : w = BitVec.ofNat 32 g.val) :
    ∑ e : Fin 16, (if BitVec.ofNat 32 e.val = w then q e else 0) = q g := by
  rw [Finset.sum_eq_single g]
  · rw [if_pos hw.symm]
  · intro e _ hne
    rw [if_neg]
    intro he
    apply hne
    have h := congrArg BitVec.toNat (he.trans hw)
    rw [BitVec.toNat_ofNat, BitVec.toNat_ofNat] at h
    apply Fin.ext
    omega
  · exact fun h => absurd (Finset.mem_univ _) h

/-- The same where it names none. -/
theorem pick_unnamed (q : Fin 16 → EReal) (w : BitVec 32) (hw : ∀ g : Fin 16, w ≠ BitVec.ofNat 32 g.val) :
    ∑ e : Fin 16, (if BitVec.ofNat 32 e.val = w then q e else 0) = 0 :=
  Finset.sum_eq_zero fun e _ => if_neg fun h => hw e h.symm

/-- A word is the number of one of the sixteen experts exactly if, read with its sign, it lies in the range. -/
theorem named_iff (w : BitVec 32) : (∃ g : Fin 16, w = BitVec.ofNat 32 g.val) ↔ (0 ≤ w.toInt ∧ w.toInt < 16) := by
  constructor
  · rintro ⟨g, rfl⟩
    revert g; decide
  · rintro ⟨h0, h1⟩
    have hlt : w.toNat < 16 := by
      rw [BitVec.toInt_eq_toNat_cond] at h0 h1
      have := w.isLt
      split at h0 <;> omega
    exact ⟨⟨w.toNat, hlt⟩, (BitVec.ofNat_toNat 32 w).symm ▸ by simp⟩

end Cert.Reals

end
-- ==== Proof.Term.lean ====
/- The kernel's operations at one row and one column, over the extended reals: the coefficient of a token for an expert, one
   expert's matrix out of a buffer of experts, and one expert's term of the accumulation. -/
module

public import proofs.«01_k».proof.Proof.Proto
public import proofs.«01_k».proof.Proof.Reals
public import Idealize.ShloMosaic.Lib.MatmulPlain
public import Idealize.ShloMosaic.Lib.Pipeline.Value
public import Idealize.ShloMosaic.Lib.ViewIndex

@[expose] public section

noncomputable section

namespace Cert.RingRun

open Cert.KernelIdeal Cert.KernelIdeal.Gen Cert.Reals Idealize.ShloMosaic Idealize.ShloMosaic.ValueIdx Idealize.SL.Sem

/-! ## Products -/

/-- A product of the tokens and a 256-by-512 matrix, at a row and a column. -/
theorem product_at {φ₁ φ₂ : FTy} (x : FVec Ideal S1024x256 φ₁) (w : FVec Ideal S256x512 φ₂) (r : Fin 1024) (h : Fin 512) :
    matmul dot_S1024x256_S256x512_S1024x512_1_0_0_1_n_n none x w (constant S1024x512 .f32 0x00000000#32) (ix2 r h)
      = ∑ k : Fin 256, (x (ix2 r k) : EReal) * w (ix2 k h) := by
  refine (Ideal.matmul_plain_apply none x w _ r h).trans ?_
  show Ideal.ofBits .f32 0x00000000#32 + _ = _
  rw [Ideal.ofBits_zero_f32, zero_add]

/-- A product of the tokens and the router, at a row and a column. -/
theorem scores_at {φ₁ φ₂ : FTy} (x : FVec Ideal S1024x256 φ₁) (w : FVec Ideal S256x16 φ₂) (r : Fin 1024) (e : Fin 16) :
    matmul dot_S1024x256_S256x16_S1024x16_1_0_0_1_n_n none x w (constant S1024x16 .f32 0x00000000#32) (ix2 r e)
      = ∑ k : Fin 256, (x (ix2 r k) : EReal) * w (ix2 k e) := by
  refine (Ideal.matmul_plain_apply none x w _ r e).trans ?_
  show Ideal.ofBits .f32 0x00000000#32 + _ = _
  rw [Ideal.ofBits_zero_f32, zero_add]

/-! ## A column spread over the rows -/

/-- A column spread over 256 columns. -/
theorem spread_at {α : Type} (v : S1024x1.Idx → α) (r : Fin 1024) (k : Fin 256) :
    broadcastTo S1024x256 v broadcasts_S1024x1_S1024x256 (ix2 r k) = v (ix2 r 0) :=
  broadcastTo_apply _ _ _ _ fun a => match a with | ⟨0, _⟩ => rfl | ⟨1, _⟩ => rfl

/-- A column spread over sixteen columns. -/
theorem spread16_at {α : Type} (v : S1024x1.Idx → α) (r : Fin 1024) (e : Fin 16) :
    broadcastTo S1024x16 v broadcasts_S1024x1_S1024x16 (ix2 r e) = v (ix2 r 0) :=
  broadcastTo_apply _ _ _ _ fun a => match a with | ⟨0, _⟩ => rfl | ⟨1, _⟩ => rfl

/-- A vector written as a column. -/
theorem column_at {α : Type} (v : S1024.Idx → α) (r : Fin 1024) :
    shapeCast S1024x1 v shapeCasts_S1024_S1024x1 (ix2 r 0) = v (ix1 r) := by
  refine shapeCast_apply _ _ _ _ ?_
  rw [Shape.rowMajor_val_one, Shape.rowMajor_val_two]
  show r.val = r.val * 1 + 0
  omega

/-! ## One expert's matrix -/

/-- Expert `j` out of a buffer of `n` experts. -/
theorem slab_at {α : Type} {n : ℕ} (j : Fin n) (W : (⟨3, ![n, 256, 512]⟩ : Shape).Idx → α)
    (hs : (⟨3, ![n, 256, 512]⟩ : Shape).Slices ![j.val, 0, 0] S1x256x512) (k : Fin 256) (h : Fin 512) :
    shapeCast S256x512 (extractStridedSlice S1x256x512 ![j.val, 0, 0] W hs) shapeCasts_S1x256x512_S256x512 (ix2 k h) = W (ix3 j k h) := by
  rw [shapeCast_apply _ _ _ (ix3 (0 : Fin 1) k h) (by
    rw [Shape.rowMajor_val_three, Shape.rowMajor_val_two]
    show (0 * 256 + k.val) * 512 + h.val = k.val * 512 + h.val
    omega)]
  exact extractStridedSlice_apply _ _ _ _ _ fun a => match a with | ⟨0, _⟩ => by simp | ⟨1, _⟩ => by simp | ⟨2, _⟩ => by simp

/-! ## One expert's term -/

/-- The coefficients of the tokens for the expert with number `gid`, at a scale. -/
def coef (ix : IVec S1024x1 32) (p : FVec Ideal S1024x1 .f32) (gid s : BitVec 32) : FVec Ideal S1024x1 .f32 :=
  mulf (select (cmpi .eq ix (broadcast S1024x1 gid)) p (broadcast S1024x1 (Scalar.ofBits .f32 0x00000000#32)))
    (broadcast S1024x1 (Scalar.ofBits .f32 s))

/-- What the accumulation adds for one expert. -/
def term (x : FVec Ideal S1024x256 .bf16) (ix : IVec S1024x1 32) (p : FVec Ideal S1024x1 .f32) (gid s : BitVec 32)
    (w : FVec Ideal S256x512 .bf16) : FVec Ideal S1024x512 .f32 :=
  matmul dot_S1024x256_S256x512_S1024x512_1_0_0_1_n_n none
    (mulf x (broadcastTo S1024x256 (truncf .bf16 (coef ix p gid s) bitsLt_bf16_f32) broadcasts_S1024x1_S1024x256)) w
    (constant S1024x512 .f32 0x00000000#32)

/-- A word compared with a word, chosen by. -/
theorem select_eq {α : Type} (a b : BitVec 32) (u v : α) : Scalar.select (IntOp.cmpi .eq a b) u v = if a = b then u else v := by
  by_cases h : a = b
  · subst h; rw [if_pos rfl]; simp [Scalar.select, IntOp.cmpi]
  · have hb : (a == b) = false := by simpa using h
    rw [if_neg h]; simp [Scalar.select, IntOp.cmpi, hb]

/-- The coefficient of one token. -/
theorem coef_at (ix : IVec S1024x1 32) (p : FVec Ideal S1024x1 .f32) (gid s : BitVec 32) (r : Fin 1024) :
    coef ix p gid s (ix2 r 0) = ((if ix (ix2 r 0) = gid then (p (ix2 r 0) : EReal) else 0) * Ideal.ofBits .f32 s : EReal) := by
  show (Scalar.select (IntOp.cmpi .eq (ix (ix2 r 0)) gid) (p (ix2 r 0)) (Ideal.ofBits .f32 0x00000000#32) : EReal) * Ideal.ofBits .f32 s = _
  rw [select_eq, Ideal.ofBits_zero_f32]

/-- Where the token's probability is a nonnegative real and the weights carry the inverse of the coefficient's scale, the
    term is the coefficient times the token's product with the expert. -/
theorem term_at (x : FVec Ideal S1024x256 .bf16) (ix : IVec S1024x1 32) (p : FVec Ideal S1024x1 .f32) (gid s : BitVec 32)
    (w : FVec Ideal S256x512 .bf16) (r : Fin 1024) (h : Fin 512) (q : ℝ) (hq : 0 ≤ q) (hp : (p (ix2 r 0) : EReal) = q)
    (W : Fin 256 → EReal) (t : EReal) (hw : ∀ k, (w (ix2 k h) : EReal) = W k * t) (hst : Ideal.ofBits .f32 s * t = (1 : EReal)) :
    term x ix p gid s w (ix2 r h)
      = (if ix (ix2 r 0) = gid then (p (ix2 r 0) : EReal) else 0) * ∑ k : Fin 256, (x (ix2 r k) : EReal) * W k := by
  have hc : ((if ix (ix2 r 0) = gid then (p (ix2 r 0) : EReal) else 0) : EReal) = (((if ix (ix2 r 0) = gid then q else 0) : ℝ) : EReal) := by
    split
    · exact hp
    · rfl
  have hc0 : 0 ≤ (if ix (ix2 r 0) = gid then q else 0) := by split <;> first | exact hq | exact le_refl _
  unfold term
  rw [product_at, hc, ← scaled_dot (fun k => (x (ix2 r k) : EReal)) W _ hc0 _ _ hst]
  refine Finset.sum_congr rfl fun k _ => ?_
  rw [hw k]
  refine congrArg (fun z : EReal => z * (W k * t)) ?_
  show (x (ix2 r k) : EReal) * broadcastTo S1024x256 (truncf .bf16 (coef ix p gid s) bitsLt_bf16_f32) broadcasts_S1024x1_S1024x256 (ix2 r k) = _
  rw [spread_at]
  show (x (ix2 r k) : EReal) * coef ix p gid s (ix2 r 0) = _
  rw [coef_at, hc]

end Cert.RingRun

end
-- ==== Proof.KernelValue.lean ====
/- What a device writes, at one row and one column, over the extended reals: the shared product and the sixteen experts' terms,
   each a coefficient times the token's product with the expert. The four terms of the device itself come first, then those of its
   neighbours as they arrive, then those of the device opposite. -/
module

public import proofs.«01_k».proof.Proof.Term

@[expose] public section

noncomputable section

namespace Cert.RingRun

open Cert.KernelIdeal Cert.KernelIdeal.Gen Cert.Reals Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-! ## The accumulation as terms -/

/-- The number of an expert as the kernel computes it: of device `d`, at offset `o`, the `j`-th. -/
def number (d : Dev nD) (o : BitVec 32) {n : ℕ} (j : Fin n) : BitVec 32 :=
  Scalar.addi (Scalar.addi (Scalar.muli (Dev.word d) 4#32) o) (BitVec.ofNat 32 j.val)

/-- The number is four times the device's plus the place on the device. -/
theorem number_lo (d : Dev nD) (j : Fin 4) : number d 0#32 j = BitVec.ofNat 32 (4 * d.val + j.val) := by revert d j; decide
theorem number_lo2 (d : Dev nD) (j : Fin 2) : number d 0#32 j = BitVec.ofNat 32 (4 * d.val + j.val) := by revert d j; decide
theorem number_hi (d : Dev nD) (j : Fin 2) : number d 2#32 j = BitVec.ofNat 32 (4 * d.val + (2 + j.val)) := by revert d j; decide

/-- Expert `j` out of a buffer of `n`. -/
def slab {n : ℕ} (j : Fin n) (W : FVec Ideal ⟨3, ![n, 256, 512]⟩ .bf16)
    (hs : (⟨3, ![n, 256, 512]⟩ : Shape).Slices ![j.val, 0, 0] S1x256x512) : FVec Ideal S256x512 .bf16 :=
  shapeCast S256x512 (extractStridedSlice S1x256x512 ![j.val, 0, 0] W hs) shapeCasts_S1x256x512_S256x512

/-- The term of the device's own expert `j`. -/
def own (j : Fin 4) (hs : S4x256x512.Slices ![j.val, 0, 0] S1x256x512) : FVec Ideal S1024x512 .f32 :=
  term (v87 m c) (ixC m c) (v107 m c) (number c 0#32 j) 0x3F800000#32 (slab j (v113 m ρ c) hs)

/-- The term of expert `j` of a half that another device sent. -/
def sent (d : Dev nD) (o : BitVec 32) (half : Vec Ideal S2x256x512 .fp8e4m3) (j : Fin 2) (hs : S2x256x512.Slices ![j.val, 0, 0] S1x256x512) :
    FVec Ideal S1024x512 .f32 :=
  term (v87 m c) (ixC m c) (v107 m c) (number d o j) 0x3D800000#32 (slab j (extf .bf16 half bitsLt_fp8e4m3_bf16) hs)

theorem v161_eq : v161 m ρ c = addf (addf (addf (v110 m c) (own m ρ c 0 slices_S4x256x512_o0_0_0_S1x256x512))
    (own m ρ c 1 slices_S4x256x512_o1_0_0_S1x256x512)) (own m ρ c 2 slices_S4x256x512_o2_0_0_S1x256x512) := rfl

theorem v177_eq : v177 m ρ c = addf (v161 m ρ c) (own m ρ c 3 slices_S4x256x512_o3_0_0_S1x256x512) := rfl

theorem v223_eq : v223 m ρ c = addf (v177 m ρ c) (sent m c (rgt c) 0#32 (ldLo (mygC m ρ (rgt c))) 0 slices_S2x256x512_o0_0_0_S1x256x512) := rfl

theorem v257_eq : v257 m ρ c = addf (addf (v223 m ρ c)
    (sent m c (rgt c) 0#32 (ldLo (mygC m ρ (rgt c))) 1 slices_S2x256x512_o1_0_0_S1x256x512))
    (sent m c (lft c) 2#32 (ldHi (mygC m ρ (lft c))) 0 slices_S2x256x512_o0_0_0_S1x256x512) := rfl

theorem v297_eq : v297 m ρ c = addf (addf (v257 m ρ c)
    (sent m c (lft c) 2#32 (ldHi (mygC m ρ (lft c))) 1 slices_S2x256x512_o1_0_0_S1x256x512))
    (sent m c (rgt c) 2#32 (ldHi (mygC m ρ (rgt c))) 0 slices_S2x256x512_o0_0_0_S1x256x512) := rfl

theorem v337_eq : v337 m ρ c = addf (addf (v297 m ρ c)
    (sent m c (rgt c) 2#32 (ldHi (mygC m ρ (rgt c))) 1 slices_S2x256x512_o1_0_0_S1x256x512))
    (sent m c (lft c) 0#32 (ldLo (mygC m ρ (lft c))) 0 slices_S2x256x512_o0_0_0_S1x256x512) := rfl

theorem v353_eq : v353 m ρ c = addf (v337 m ρ c) (sent m c (lft c) 0#32 (ldLo (mygC m ρ (lft c))) 1 slices_S2x256x512_o1_0_0_S1x256x512) := rfl

theorem v404_eq : v404 m ρ c = addf (addf (v353 m ρ c)
    (sent m c (opp c) 0#32 (ldLo (mygC m ρ (opp c))) 0 slices_S2x256x512_o0_0_0_S1x256x512))
    (sent m c (opp c) 0#32 (ldLo (mygC m ρ (opp c))) 1 slices_S2x256x512_o1_0_0_S1x256x512) := rfl

theorem v444_eq : v444 m ρ c = addf (addf (v404 m ρ c)
    (sent m c (opp c) 2#32 (ldHi (mygC m ρ (opp c))) 0 slices_S2x256x512_o0_0_0_S1x256x512))
    (sent m c (opp c) 2#32 (ldHi (mygC m ρ (opp c))) 1 slices_S2x256x512_o1_0_0_S1x256x512) := rfl

/-! ## The weights -/

/-- What a device stages is its experts. -/
theorem wstg_eq : wstg m ρ c = m ((c : Thread nD τ).loc main_arg3) := by
  have hz : (fun a => (win0_0.index (0 : Fin 1)) a * main_arg3.ty.shape.size a) = fun _ => 0 := funext fun a => by fin_cases a <;> decide
  exact Memref.read_access_unit_zero (Elt Ideal) main_arg3 hz _ _

/-- A device's experts, by place, row and column. -/
def wC (d : Dev nD) (j : Fin 4) (k : Fin 256) (h : Fin 512) : EReal :=
  (m ((d : Thread nD τ).loc main_arg3) : S4x256x512.Idx → EReal) (ix3 j k h)

theorem own_weight (j : Fin 4) (k : Fin 256) (h : Fin 512) : (v113 m ρ c (ix3 j k h) : EReal) = wC m c j k h := by
  show shapeCast S4x256x512 (wstg m ρ c) shapeCasts_S4x256x512_S4x256x512 (ix3 j k h) = _
  refine (shapeCast_apply _ _ _ (ix3 j k h) rfl).trans ?_
  rw [wstg_eq]; rfl

theorem sent_weight (d : Dev nD) (j : Fin 4) (k : Fin 256) (h : Fin 512) :
    (mygC m ρ d (ix3 j k h) : EReal) = wC m d j k h * Ideal.ofBits .f32 0x41800000#32 := by
  show shapeCast S4x256x512 (truncf .fp8e4m3 (mulf (shapeCast S4x256x512 (wstg m ρ d) shapeCasts_S4x256x512_S4x256x512)
    (broadcast S4x256x512 (Scalar.ofBits .f32 0x41800000#32))) bitsLt_fp8e4m3_f32) shapeCasts_S4x256x512_S4x256x512 (ix3 j k h) = _
  refine (shapeCast_apply _ _ _ (ix3 j k h) rfl).trans ?_
  show (shapeCast S4x256x512 (wstg m ρ d) shapeCasts_S4x256x512_S4x256x512 (ix3 j k h) : EReal) * Ideal.ofBits .f32 0x41800000#32 = _
  refine congrArg (fun z : EReal => z * Ideal.ofBits .f32 0x41800000#32) ?_
  refine (shapeCast_apply _ _ _ (ix3 j k h) rfl).trans ?_
  rw [wstg_eq]; rfl

theorem lo_weight (f : S4x256x512.Idx → Elt Ideal .fp8e4m3) (j : Fin 2) (k : Fin 256) (h : Fin 512) :
    ldLo (F := Ideal) f (ix3 j k h) = f (ix3 (⟨j.val, by omega⟩ : Fin 4) k h) := by
  unfold ldLo
  refine congrArg f (funext fun a => Fin.ext ?_)
  fin_cases a <;> simp [Rect.unit]

theorem hi_weight (f : S4x256x512.Idx → Elt Ideal .fp8e4m3) (j : Fin 2) (k : Fin 256) (h : Fin 512) :
    ldHi (F := Ideal) f (ix3 j k h) = f (ix3 (⟨2 + j.val, by omega⟩ : Fin 4) k h) := by
  unfold ldHi
  refine congrArg f (funext fun a => Fin.ext ?_)
  fin_cases a <;> simp [Rect.unit]

/-! ## The terms at a row and a column -/

/-- The token's probability of its choice. -/
def chosen (r : Fin 1024) : EReal := v107 m c (ix2 r 0)

/-- What device `d`'s expert `j` adds for a token, at a column. -/
def addend (r : Fin 1024) (h : Fin 512) (d : Dev nD) (j : Fin 4) : EReal :=
  (if ixC m c (ix2 r 0) = BitVec.ofNat 32 (4 * d.val + j.val) then chosen m c r else 0)
    * ∑ k : Fin 256, (xC m c (ix2 r k) : EReal) * wC m d j k h

section AtRow
variable (r : Fin 1024) (h : Fin 512) (q : ℝ) (hq : 0 ≤ q) (hp : chosen m c r = q)
include hq hp

theorem own_at (j : Fin 4) (hs) : (own m ρ c j hs (ix2 r h) : EReal) = addend m c r h c j := by
  unfold own addend
  rw [term_at _ _ _ _ _ _ r h q hq hp (fun k => wC m c j k h) 1
    (fun k => by rw [mul_one, ← own_weight m ρ]; exact slab_at j _ hs k h) (by rw [mul_one]; exact Ideal.ofBits_one_f32), number_lo]
  rfl

theorem lo_at (d : Dev nD) (j : Fin 2) (hs) :
    (sent m c d 0#32 (ldLo (mygC m ρ d)) j hs (ix2 r h) : EReal) = addend m c r h d ⟨j.val, by omega⟩ := by
  unfold sent addend
  rw [term_at _ _ _ _ _ _ r h q hq hp (fun k => wC m d ⟨j.val, by omega⟩ k h) (Ideal.ofBits .f32 0x41800000#32)
    (fun k => by rw [← sent_weight m ρ, ← lo_weight (mygC m ρ d)]; exact slab_at j _ hs k h) scales_cancel, number_lo2]
  rfl

theorem hi_at (d : Dev nD) (j : Fin 2) (hs) :
    (sent m c d 2#32 (ldHi (mygC m ρ d)) j hs (ix2 r h) : EReal) = addend m c r h d ⟨2 + j.val, by omega⟩ := by
  unfold sent addend
  rw [term_at _ _ _ _ _ _ r h q hq hp (fun k => wC m d ⟨2 + j.val, by omega⟩ k h) (Ideal.ofBits .f32 0x41800000#32)
    (fun k => by rw [← sent_weight m ρ, ← hi_weight (mygC m ρ d)]; exact slab_at j _ hs k h) scales_cancel, number_hi]
  rfl

/-- The result in the order in which the kernel adds. -/
theorem out_at : (outC m ρ c (ix2 r h) : EReal) = (∑ k : Fin 256, (xC m c (ix2 r k) : EReal) * swC m c (ix2 k h))
    + addend m c r h c 0 + addend m c r h c 1 + addend m c r h c 2 + addend m c r h c 3
    + addend m c r h (rgt c) 0 + addend m c r h (rgt c) 1 + addend m c r h (lft c) 2 + addend m c r h (lft c) 3
    + addend m c r h (rgt c) 2 + addend m c r h (rgt c) 3 + addend m c r h (lft c) 0 + addend m c r h (lft c) 1
    + addend m c r h (opp c) 0 + addend m c r h (opp c) 1 + addend m c r h (opp c) 2 + addend m c r h (opp c) 3 := by
  show v444 m ρ c (ix2 r h) = _
  rw [v444_eq, v404_eq, v353_eq, v337_eq, v297_eq, v257_eq, v223_eq, v177_eq, v161_eq]
  show (v110 m c (ix2 r h) : EReal) + own m ρ c 0 _ (ix2 r h) + own m ρ c 1 _ (ix2 r h) + own m ρ c 2 _ (ix2 r h) + own m ρ c 3 _ (ix2 r h)
    + sent m c (rgt c) 0#32 (ldLo (mygC m ρ (rgt c))) 0 _ (ix2 r h) + sent m c (rgt c) 0#32 (ldLo (mygC m ρ (rgt c))) 1 _ (ix2 r h)
    + sent m c (lft c) 2#32 (ldHi (mygC m ρ (lft c))) 0 _ (ix2 r h) + sent m c (lft c) 2#32 (ldHi (mygC m ρ (lft c))) 1 _ (ix2 r h)
    + sent m c (rgt c) 2#32 (ldHi (mygC m ρ (rgt c))) 0 _ (ix2 r h) + sent m c (rgt c) 2#32 (ldHi (mygC m ρ (rgt c))) 1 _ (ix2 r h)
    + sent m c (lft c) 0#32 (ldLo (mygC m ρ (lft c))) 0 _ (ix2 r h) + sent m c (lft c) 0#32 (ldLo (mygC m ρ (lft c))) 1 _ (ix2 r h)
    + sent m c (opp c) 0#32 (ldLo (mygC m ρ (opp c))) 0 _ (ix2 r h) + sent m c (opp c) 0#32 (ldLo (mygC m ρ (opp c))) 1 _ (ix2 r h)
    + sent m c (opp c) 2#32 (ldHi (mygC m ρ (opp c))) 0 _ (ix2 r h) + sent m c (opp c) 2#32 (ldHi (mygC m ρ (opp c))) 1 _ (ix2 r h) = _
  simp only [own_at m ρ c r h q hq hp, lo_at m ρ c r h q hq hp, hi_at m ρ c r h q hq hp]
  rw [show (v110 m c (ix2 r h) : EReal) = ∑ k : Fin 256, (xC m c (ix2 r k) : EReal) * swC m c (ix2 k h) from
    product_at (truncf .bf16 (xC m c) bitsLt_bf16_f32) (truncf .bf16 (swC m c) bitsLt_bf16_f32) r h]
  rfl

end AtRow

/-! ## The probability of the choice -/

/-- The scores of a token. -/
def scores (r : Fin 1024) (e : Fin 16) : EReal := ∑ k : Fin 256, (xC m c (ix2 r k) : EReal) * rwC m c (ix2 k e)

/-- The place a reduction over the columns reads, by row and column. -/
theorem lift_at (r : Fin 1024) (e : Fin 16) : Shape.Reduces.lift reduces_S1024x16_S1024 (ix1 r) e = ix2 r e :=
  funext fun a => Fin.ext (by fin_cases a <;> rfl)

/-- A sum over sixteen columns, at a row. -/
theorem row_sum (v : FVec Ideal S1024x16 .f32) (r : Fin 1024) :
    (multiReduction .add [1] S1024 v 0x00000000#32 reduces_S1024x16_S1024 (.inl rfl) rfl (ix1 r) : EReal) = ∑ e : Fin 16, (v (ix2 r e) : EReal) := by
  refine (Ideal.multiReduction_add_single v _ reduces_S1024x16_S1024 _ _ (ix1 r)).trans ?_
  exact Finset.sum_congr rfl fun e _ => congrArg v (lift_at r e)

/-- The maximum over sixteen columns, at a row. -/
theorem row_top (v : FVec Ideal S1024x16 .f32) (r : Fin 1024) :
    (multiReduction .maximumf [1] S1024 v 0xFF800000#32 reduces_S1024x16_S1024 (.inl rfl) rfl (ix1 r) : EReal) = top fun e => (v (ix2 r e) : EReal) := by
  refine (Ideal.multiReduction_maximumf_single v _ reduces_S1024x16_S1024 _ _ (ix1 r)).trans ?_
  show (Finset.univ : Finset (Fin 16)).fold max (Ideal.ofBits .f32 0xFF800000#32) _ = _
  rw [word_bot]
  exact congrArg (Finset.fold max (⊥ : EReal) · Finset.univ) (funext fun e => congrArg v (lift_at r e))

/-- The softmax of a matrix of scores, at a row and a column, as the kernel computes it. -/
theorem softmax_at (v : FVec Ideal S1024x16 .f32) (r : Fin 1024) (e : Fin 16) :
    (divf (exp (subf v (broadcastTo S1024x16 (shapeCast S1024x1 (multiReduction .maximumf [1] S1024 v 0xFF800000#32 reduces_S1024x16_S1024 (.inl rfl) rfl)
        shapeCasts_S1024_S1024x1) broadcasts_S1024x1_S1024x16)))
      (broadcastTo S1024x16 (shapeCast S1024x1 (multiReduction .add [1] S1024 (exp (subf v (broadcastTo S1024x16 (shapeCast S1024x1
        (multiReduction .maximumf [1] S1024 v 0xFF800000#32 reduces_S1024x16_S1024 (.inl rfl) rfl) shapeCasts_S1024_S1024x1) broadcasts_S1024x1_S1024x16)))
        0x00000000#32 reduces_S1024x16_S1024 (.inl rfl) rfl) shapeCasts_S1024_S1024x1) broadcasts_S1024x1_S1024x16) (ix2 r e) : EReal)
      = soft (fun e => (v (ix2 r e) : EReal)) e := by
  have hE : ∀ e : Fin 16, (exp (subf v (broadcastTo S1024x16 (shapeCast S1024x1 (multiReduction .maximumf [1] S1024 v 0xFF800000#32 reduces_S1024x16_S1024
      (.inl rfl) rfl) shapeCasts_S1024_S1024x1) broadcasts_S1024x1_S1024x16)) (ix2 r e) : EReal)
      = Ideal.exp ((v (ix2 r e) : EReal) - top fun e => (v (ix2 r e) : EReal)) := fun e => by
    refine congrArg Ideal.exp (congrArg (fun z : EReal => (v (ix2 r e) : EReal) - z) ?_)
    rw [spread16_at, column_at]
    exact row_top v r
  refine congrArg₂ Ideal.div (hE e) ?_
  rw [spread16_at, column_at]
  exact (row_sum _ r).trans (Finset.sum_congr rfl fun e _ => hE e)

/-- The probability of the choice: the softmax of the scores, at the chosen column. -/
theorem chosen_eq (r : Fin 1024) : chosen m c r = ∑ e : Fin 16, if BitVec.ofNat 32 e.val = ixC m c (ix2 r 0) then soft (scores m c r) e else 0 := by
  unfold chosen v107 k0_pay4
  refine (column_at _ r).trans ((row_sum _ r).trans (Finset.sum_congr rfl fun e _ => ?_))
  refine (select_eq (iota .tc S1024x16 32 [1] iota_S1024x16_d1_w32 (ix2 r e)) (broadcastTo S1024x16 (ixC m c) broadcasts_S1024x1_S1024x16 (ix2 r e)) _ _).trans ?_
  rw [iota_single_apply, spread16_at]
  refine congrArg₂ (fun u v : EReal => if BitVec.ofNat 32 e.val = ixC m c (ix2 r 0) then u else v) ?_ Ideal.ofBits_zero_f32
  refine (softmax_at _ r e).trans (congrArg (soft · e) (funext fun e => ?_))
  exact scores_at (φ₁ := .f32) (φ₂ := .f32) (xC m c) (rwC m c) r e

end Cert.RingRun

end
-- ==== Proof.RefValue.lean ====
/- What the reference returns, at one token and one column, over the extended reals: the shared product, and, where the token's choice
   names an expert, the softmax of its scores at that expert times its product with the expert. -/
module

public import proofs.«01_k».proof.Proof.Gen.ReferenceIdeal
public import proofs.«01_k».proof.Proof.Gen.ReferenceIdeal.Run
public import proofs.«01_k».proof.Proof.Reals
public import Idealize.ShloMosaic.Lib.MatmulPlain
public import Idealize.ShloMosaic.Lib.StackMember
public import Idealize.ShloMosaic.Lib.Pipeline.Value
public import Idealize.ShloMosaic.Lib.KernelVsHost

@[expose] public section

noncomputable section

namespace Cert.Ref

open Cert.ReferenceIdeal Cert.ReferenceIdeal.Gen Cert.Reals Idealize.ShloMosaic Idealize.ShloMosaic.ValueIdx Idealize.SL.Sem

/-! ## Reading the operations -/

/-- A product of every token with its own matrix, at a token and a column. -/
theorem batched_at {φ₁ φ₂ : FTy} (A : FVec Ideal S4096x256 φ₁) (B : FVec Ideal S4096x256x512 φ₂) (R : Fin 4096) (h : Fin 512) :
    (Host.dotGeneral dot_S4096x256_S4096x256x512_S4096x512_1_1_n_2_0_0 none A B (ix2 R h) : EReal)
      = ∑ k : Fin 256, (A (ix2 R k) : EReal) * B (ix3 R k h) := by
  show FloatOps.dotGeneral _ none _ A B (ix2 R h) = _
  rw [Ideal.dotGeneral_apply, ← Equiv.sum_comp (contrEquiv1 dot_S4096x256_S4096x256x512_S4096x512_1_1_n_2_0_0 256 rfl rfl).symm]
  refine Finset.sum_congr rfl fun k _ => ?_
  have hk := contrEquiv1_symm_val dot_S4096x256_S4096x256x512_S4096x512_1_1_n_2_0_0 256 rfl rfl k
  have hl : dot_S4096x256_S4096x256x512_S4096x512_1_1_n_2_0_0.lhsIdx (ix2 R h) ((contrEquiv1 _ 256 rfl rfl).symm k) = ix2 R k := by
    funext a; apply Fin.ext
    match a with
    | ⟨0, _⟩ => simp [DotDims.lhsIdx, dot_S4096x256_S4096x256x512_S4096x512_1_1_n_2_0_0]; rfl
    | ⟨1, _⟩ => simp [DotDims.lhsIdx, dot_S4096x256_S4096x256x512_S4096x512_1_1_n_2_0_0]; exact hk
  have hr : dot_S4096x256_S4096x256x512_S4096x512_1_1_n_2_0_0.rhsIdx (ix2 R h) ((contrEquiv1 _ 256 rfl rfl).symm k) = ix3 R k h := by
    funext a; apply Fin.ext
    match a with
    | ⟨0, _⟩ => simp [DotDims.rhsIdx, dot_S4096x256_S4096x256x512_S4096x512_1_1_n_2_0_0]; rfl
    | ⟨1, _⟩ => simp [DotDims.rhsIdx, dot_S4096x256_S4096x256x512_S4096x512_1_1_n_2_0_0]; exact hk
    | ⟨2, _⟩ => simp [DotDims.rhsIdx, dot_S4096x256_S4096x256x512_S4096x512_1_1_n_2_0_0]; rfl
  rw [hl, hr]

/-- A token's entry at its own column: the column's number is read with its sign and kept within the sixteen. -/
theorem entry_at {α : Type} (x : S4096x16.Idx → α) (i : IVec S4096x1x1 32) (R : Fin 4096) :
    Host.gather gather_S4096x16_S4096x1x1_S4096x1_n_1_0_0_1_2_11 x i (ix2 R 0)
      = x (ix2 R ⟨min (i (ix3 R 0 0)).toInt.toNat 15, by omega⟩) := by
  unfold Host.gather
  congr 1
  funext a
  refine Fin.ext ?_
  show GatherDims.start gather_S4096x16_S4096x1x1_S4096x1_n_1_0_0_1_2_11 (ix2 R 0) i a + GatherDims.batchCoord gather_S4096x16_S4096x1x1_S4096x1_n_1_0_0_1_2_11 (ix2 R 0) a
    + GatherDims.offCoord gather_S4096x16_S4096x1x1_S4096x1_n_1_0_0_1_2_11 (ix2 R 0) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    unfold GatherDims.batchCoord
    rw [dif_pos (show (0 : Fin 2) ∈ gather_S4096x16_S4096x1x1_S4096x1_n_1_0_0_1_2_11.operandBatchingDims from List.mem_singleton.mpr rfl)]
    simp only [Nat.zero_add, Nat.add_zero]
    rfl
  · rw [GatherDims.batchCoord_eq_zero _ _ _ (by decide),
      GatherDims.offCoord_eq_zero _ _ _ (fun h => ((GatherDims.mem_sKept _ _).mp h).1 (List.mem_singleton.mpr rfl))]
    unfold GatherDims.start
    rw [dif_pos (show (1 : Fin 2) ∈ gather_S4096x16_S4096x1x1_S4096x1_n_1_0_0_1_2_11.startIndexMap from List.mem_singleton.mpr rfl)]
    rw [show gather_S4096x16_S4096x1x1_S4096x1_n_1_0_0_1_2_11.siIdx (ix2 R 0) ⟨List.idxOf (1 : Fin 2) gather_S4096x16_S4096x1x1_S4096x1_n_1_0_0_1_2_11.startIndexMap,
        List.idxOf_lt_length_iff.2 (List.mem_singleton.mpr rfl)⟩ = ix3 R 0 0 from
      funext fun b => Fin.ext (match b with | ⟨0, _⟩ => rfl | ⟨1, _⟩ => rfl | ⟨2, _⟩ => rfl)]
    rfl

/-- A token's own matrix: the expert's number is read with its sign and kept within the sixteen. -/
theorem matrix_at {α : Type} (x : S16x256x512.Idx → α) (i : IVec S4096x1 32) (R : Fin 4096) (k : Fin 256) (h : Fin 512) :
    Host.gather gather_S16x256x512_S4096x1_S4096x256x512_12_0_n_n_0_1_1256512 x i (ix3 R k h)
      = x (ix3 ⟨min (i (ix2 R 0)).toInt.toNat 15, by omega⟩ k h) := by
  unfold Host.gather
  congr 1
  funext a
  refine Fin.ext ?_
  show GatherDims.start gather_S16x256x512_S4096x1_S4096x256x512_12_0_n_n_0_1_1256512 (ix3 R k h) i a
    + GatherDims.batchCoord gather_S16x256x512_S4096x1_S4096x256x512_12_0_n_n_0_1_1256512 (ix3 R k h) a
    + GatherDims.offCoord gather_S16x256x512_S4096x1_S4096x256x512_12_0_n_n_0_1_1256512 (ix3 R k h) a = _
  rw [GatherDims.batchCoord_eq_zero _ _ _ List.not_mem_nil]
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.offCoord_eq_zero _ _ _ (fun h => ((GatherDims.mem_sKept _ _).mp h).1 (List.mem_singleton.mpr rfl))]
    unfold GatherDims.start
    rw [dif_pos (show (0 : Fin 3) ∈ gather_S16x256x512_S4096x1_S4096x256x512_12_0_n_n_0_1_1256512.startIndexMap from List.mem_singleton.mpr rfl)]
    rw [show gather_S16x256x512_S4096x1_S4096x256x512_12_0_n_n_0_1_1256512.siIdx (ix3 R k h)
        ⟨List.idxOf (0 : Fin 3) gather_S16x256x512_S4096x1_S4096x256x512_12_0_n_n_0_1_1256512.startIndexMap,
        List.idxOf_lt_length_iff.2 (List.mem_singleton.mpr rfl)⟩ = ix2 R 0 from
      funext fun b => Fin.ext (match b with | ⟨0, _⟩ => rfl | ⟨1, _⟩ => rfl)]
    rfl
  · unfold GatherDims.start GatherDims.offCoord
    rw [dif_neg (by decide), dif_pos (by decide)]
    simp only [Nat.zero_add, Nat.add_zero]
    rfl
  · unfold GatherDims.start GatherDims.offCoord
    rw [dif_neg (by decide), dif_pos (by decide)]
    simp only [Nat.zero_add, Nat.add_zero]
    rfl

/-- A column spread over the columns of the result. -/
theorem spread512_at {α : Type} (v : S4096x1.Idx → α) (R : Fin 4096) (h : Fin 512) :
    broadcastInDim S4096x512 ![0, 1] bcast_S4096x1_S4096x512_0_1 v (ix2 R h) = v (ix2 R 0) :=
  broadcastInDim_apply _ _ _ _ _ fun a => match a with | ⟨0, _⟩ => rfl | ⟨1, _⟩ => rfl

/-- A vector as a column, spread over sixteen columns. -/
theorem spread16_at {α : Type} (v : S4096.Idx → α) (R : Fin 4096) (e : Fin 16) :
    broadcastInDim S4096x16 ![0, 1] bcast_S4096x1_S4096x16_0_1 (broadcastInDim S4096x1 ![0] bcast_S4096_S4096x1_0 v) (ix2 R e) = v (ix1 R) :=
  (broadcastInDim_apply _ _ _ _ (ix2 R 0) fun a => match a with | ⟨0, _⟩ => rfl | ⟨1, _⟩ => rfl).trans
    (broadcastInDim_apply _ _ _ _ (ix1 R) fun a => match a with | ⟨0, _⟩ => rfl)

/-- The place a reduction over the columns reads, by token and column. -/
theorem lift_at (hd : S4096x16.Reduces [1] S4096) (R : Fin 4096) (e : Fin 16) : hd.lift (ix1 R) e = ix2 R e :=
  funext fun a => Fin.ext (by fin_cases a <;> rfl)

/-- The reduction over the columns has the shapes it needs. -/
theorem reduces_cols : S4096x16.Reduces [1] S4096 := by decide

/-- The maximum over sixteen columns, at a token. -/
theorem row_top (v : FVec Ideal S4096x16 .f32) (R : Fin 4096) :
    (Host.reduce (FloatOps.maximumf (F := Ideal) (φ := .f32)) v (constant (F := Ideal) S_ .f32 0xFF800000#32) reducesTo_S4096x16_S4096_d1 h_S_ (ix1 R) : EReal)
      = top fun e => (v (ix2 R e) : EReal) := by
  rw [hostReduce_maximumf_eq_multiReduction v 0xFF800000#32 reducesTo_S4096x16_S4096_d1 h_S_ reduces_cols (.inl rfl) rfl]
  refine (Ideal.multiReduction_maximumf_single v _ reduces_cols _ _ (ix1 R)).trans ?_
  show (Finset.univ : Finset (Fin 16)).fold max (Ideal.ofBits .f32 0xFF800000#32) _ = _
  rw [word_bot]
  exact congrArg (Finset.fold max (⊥ : EReal) · Finset.univ) (funext fun e => congrArg v (lift_at _ R e))

/-- The sum over sixteen columns, at a token. -/
theorem row_sum (v : FVec Ideal S4096x16 .f32) (R : Fin 4096) :
    (Host.reduceAdd v (constant S_ .f32 0x00000000#32) reducesTo_S4096x16_S4096_d1 h_S_ (ix1 R) : EReal) = ∑ e : Fin 16, (v (ix2 R e) : EReal) := by
  rw [hostReduceAdd_apply]
  refine (Ideal.hostReduceAdd_single _ reduces_cols v _ (ix1 R)).trans ?_
  show Ideal.ofBits .f32 0x00000000#32 + _ = _
  rw [Ideal.ofBits_zero_f32, zero_add]
  exact Finset.sum_congr rfl fun e _ => congrArg v (lift_at _ R e)

/-! ## The softmax -/

/-- The exponentials of a matrix of scores, each row below its largest. -/
def expo (v : FVec Ideal S4096x16 .f32) : FVec Ideal S4096x16 .f32 :=
  Host.exp (subf v (broadcastInDim S4096x16 ![0, 1] bcast_S4096x1_S4096x16_0_1 (broadcastInDim S4096x1 ![0] bcast_S4096_S4096x1_0
    (Host.reduce (FloatOps.maximumf (F := Ideal) (φ := .f32)) v (constant (F := Ideal) S_ .f32 0xFF800000#32) reducesTo_S4096x16_S4096_d1 h_S_))))

/-- The softmax of a matrix of scores along its rows. -/
def probs (v : FVec Ideal S4096x16 .f32) : FVec Ideal S4096x16 .f32 :=
  Host.divf (expo v) (broadcastInDim S4096x16 ![0, 1] bcast_S4096x1_S4096x16_0_1 (broadcastInDim S4096x1 ![0] bcast_S4096_S4096x1_0
    (Host.reduceAdd (expo v) (constant S_ .f32 0x00000000#32) reducesTo_S4096x16_S4096_d1 h_S_)))

theorem expo_at (v : FVec Ideal S4096x16 .f32) (R : Fin 4096) (e : Fin 16) :
    (expo v (ix2 R e) : EReal) = Ideal.exp ((v (ix2 R e) : EReal) - top fun e => (v (ix2 R e) : EReal)) := by
  refine congrArg Ideal.exp (congrArg (fun z : EReal => (v (ix2 R e) : EReal) - z) ?_)
  rw [spread16_at]
  exact row_top v R

theorem probs_at (v : FVec Ideal S4096x16 .f32) (R : Fin 4096) (e : Fin 16) :
    (probs v (ix2 R e) : EReal) = soft (fun e => (v (ix2 R e) : EReal)) e := by
  refine congrArg₂ Ideal.div (expo_at v R e) ?_
  rw [spread16_at]
  exact (row_sum _ R).trans (Finset.sum_congr rfl fun e _ => expo_at v R e)

/-! ## The choice -/

/-- Whether a choice names an expert, as a word. -/
def inRange (w : BitVec 32) : BitVec 1 := IntOp.cmpi .sge w 0#32 &&& IntOp.cmpi .slt w 16#32
/-- The column a choice stands for: a negative one counts from the end. -/
def wrapped (w : BitVec 32) : BitVec 32 := Scalar.select (IntOp.cmpi .slt w 0#32) (w + 16#32) w

theorem inRange_named (g : Fin 16) : inRange (BitVec.ofNat 32 g.val) = 1#1 := by revert g; decide
theorem wrapped_named (g : Fin 16) : (⟨min (wrapped (BitVec.ofNat 32 g.val)).toInt.toNat 15, by omega⟩ : Fin 16) = g := by revert g; decide
theorem clamp_named (g : Fin 16) : (⟨min (BitVec.ofNat 32 g.val).toInt.toNat 15, by omega⟩ : Fin 16) = g := by revert g; decide

theorem inRange_unnamed (w : BitVec 32) (hw : ∀ g : Fin 16, w ≠ BitVec.ofNat 32 g.val) : inRange w ≠ 1#1 := by
  intro h
  obtain ⟨g, hg⟩ := (named_iff w).2 (by
    unfold inRange IntOp.cmpi at h
    by_cases h0 : (0 : ℤ) ≤ w.toInt <;> by_cases h1 : w.toInt < 16
    · exact ⟨h0, h1⟩
    all_goals exfalso; simp [BitVec.sle, BitVec.slt, h0, h1] at h)
  exact hw g hg

/-! ## The result -/

section Result
variable (x : FVec Ideal S4096x256 .f32) (rw' : FVec Ideal S256x16 .f32) (ix : IVec S4096x1 32) (W : FVec Ideal S16x256x512 .f32) (sw : FVec Ideal S256x512 .f32)

/-- The products of the tokens with the shared matrix. -/
def shared : FVec Ideal S4096x512 .f32 := Host.dotGeneral dot_S4096x256_S256x512_S4096x512_1_0_0_1_n_n none x sw
/-- The scores of the tokens. -/
def score : FVec Ideal S4096x16 .f32 := Host.dotGeneral dot_S4096x256_S256x16_S4096x16_1_0_0_1_n_n none x rw'
/-- The probability of each token's choice. -/
def gate : FVec Ideal S4096x1 .f32 :=
  Host.gather gather_S4096x16_S4096x1x1_S4096x1_n_1_0_0_1_2_11 (probs (score x rw'))
    (shapeCast _ (select (cmpi .slt ix (broadcastInDim S4096x1 ![] bcast_S_S4096x1 (constantI S_ 32 0#32)))
      (addi ix (broadcastInDim S4096x1 ![] bcast_S_S4096x1 (constantI S_ 32 16#32))) ix) shapeCasts_S4096x1_S4096x1x1)
/-- The products of the tokens with their chosen matrices. -/
def routed : FVec Ideal S4096x512 .f32 :=
  Host.dotGeneral dot_S4096x256_S4096x256x512_S4096x512_1_1_n_2_0_0 none x
    (Host.gather gather_S16x256x512_S4096x1_S4096x256x512_12_0_n_n_0_1_1256512 W
      (broadcastInDim S4096x1 ![0] bcast_S4096_S4096x1_0 (shapeCast _ ix shapeCasts_S4096x1_S4096)))
/-- What the reference returns. -/
def result : FVec Ideal S4096x512 .bf16 :=
  truncf .bf16 (addf (shared x sw) (select (broadcastInDim S4096x512 ![0, 1] bcast_S4096x1_S4096x512_0_1
      (andi (cmpi .sge ix (broadcastInDim S4096x1 ![] bcast_S_S4096x1 (constantI S_ 32 0#32)))
        (cmpi .slt ix (broadcastInDim S4096x1 ![] bcast_S_S4096x1 (constantI S_ 32 16#32)))))
      (mulf (broadcastInDim S4096x512 ![0, 1] bcast_S4096x1_S4096x512_0_1 (gate x rw' ix)) (routed x ix W))
      (broadcastInDim S4096x512 ![] bcast_S_S4096x512 (id (constant S_ .f32 0x00000000#32))))) bitsLt_bf16_f32

/-- The scores of one token. -/
def scoresAt (R : Fin 4096) (e : Fin 16) : EReal := ∑ k : Fin 256, (x (ix2 R k) : EReal) * rw' (ix2 k e)

theorem gate_named (R : Fin 4096) (g : Fin 16) (hg : ix (ix2 R 0) = BitVec.ofNat 32 g.val) :
    (gate x rw' ix (ix2 R 0) : EReal) = soft (scoresAt x rw' R) g := by
  unfold gate
  rw [entry_at, probs_at]
  refine congrArg₂ soft (funext fun e => Idealize.ShloMosaic.StackMember.dotGeneral_plain_apply none x rw' R e) ?_
  refine Eq.trans (Fin.ext ?_) (wrapped_named g)
  show min (BitVec.toInt (shapeCast S4096x1x1 _ shapeCasts_S4096x1_S4096x1x1 (ix3 R 0 0))).toNat 15 = _
  rw [shapeCast_apply _ _ _ (ix2 R 0) (by
    rw [Shape.rowMajor_val_three, Shape.rowMajor_val_two]
    show R.val * 1 + 0 = (R.val * 1 + 0) * 1 + 0
    omega)]
  show min (BitVec.toInt (wrapped (ix (ix2 R 0)))).toNat 15 = _
  rw [hg]

theorem routed_named (R : Fin 4096) (h : Fin 512) (g : Fin 16) (hg : ix (ix2 R 0) = BitVec.ofNat 32 g.val) :
    (routed x ix W (ix2 R h) : EReal) = ∑ k : Fin 256, (x (ix2 R k) : EReal) * W (ix3 g k h) := by
  unfold routed
  rw [batched_at]
  refine Finset.sum_congr rfl fun k _ => congrArg (fun z : EReal => (x (ix2 R k) : EReal) * z) ?_
  rw [matrix_at]
  refine congrArg (fun e => W (ix3 e k h)) (Eq.trans (Fin.ext ?_) (clamp_named g))
  show min (BitVec.toInt (broadcastInDim S4096x1 ![0] bcast_S4096_S4096x1_0 (shapeCast S4096 ix shapeCasts_S4096x1_S4096) (ix2 R 0))).toNat 15 = _
  rw [broadcastInDim_apply _ _ _ _ (ix1 R) fun a => match a with | ⟨0, _⟩ => rfl,
    shapeCast_apply _ _ _ (ix2 R 0) (by
      rw [Shape.rowMajor_val_one, Shape.rowMajor_val_two]
      show R.val * 1 + 0 = R.val
      omega), hg]

theorem result_select (R : Fin 4096) (h : Fin 512) : (result x rw' ix W sw (ix2 R h) : EReal)
    = (∑ k : Fin 256, (x (ix2 R k) : EReal) * sw (ix2 k h))
      + Scalar.select (inRange (ix (ix2 R 0))) ((gate x rw' ix (ix2 R 0) : EReal) * routed x ix W (ix2 R h)) 0 := by
  refine congrArg₂ (fun a b : EReal => a + b) (Idealize.ShloMosaic.StackMember.dotGeneral_plain_apply none x sw R h) ?_
  show Scalar.select (broadcastInDim S4096x512 ![0, 1] bcast_S4096x1_S4096x512_0_1
      (andi (cmpi .sge ix (broadcastInDim S4096x1 ![] bcast_S_S4096x1 (constantI S_ 32 0#32)))
        (cmpi .slt ix (broadcastInDim S4096x1 ![] bcast_S_S4096x1 (constantI S_ 32 16#32)))) (ix2 R h))
    ((broadcastInDim S4096x512 ![0, 1] bcast_S4096x1_S4096x512_0_1 (gate x rw' ix) (ix2 R h) : EReal) * routed x ix W (ix2 R h))
    (Ideal.ofBits .f32 0x00000000#32) = _
  rw [spread512_at, spread512_at, Ideal.ofBits_zero_f32]
  rfl

/-- Where the choice names an expert, the softmax at it times the product with its matrix is added to the shared product. -/
theorem result_named (R : Fin 4096) (h : Fin 512) (g : Fin 16) (hg : ix (ix2 R 0) = BitVec.ofNat 32 g.val) :
    (result x rw' ix W sw (ix2 R h) : EReal) = (∑ k : Fin 256, (x (ix2 R k) : EReal) * sw (ix2 k h))
      + soft (scoresAt x rw' R) g * ∑ k : Fin 256, (x (ix2 R k) : EReal) * W (ix3 g k h) := by
  rw [result_select, gate_named x rw' ix R g hg, routed_named x ix W R h g hg, hg, inRange_named]
  rfl

/-- Where it names none, nothing is. -/
theorem result_unnamed (R : Fin 4096) (h : Fin 512) (hw : ∀ g : Fin 16, ix (ix2 R 0) ≠ BitVec.ofNat 32 g.val) :
    (result x rw' ix W sw (ix2 R h) : EReal) = ∑ k : Fin 256, (x (ix2 R k) : EReal) * sw (ix2 k h) := by
  rw [result_select]
  refine (congrArg (fun z : EReal => (∑ k : Fin 256, (x (ix2 R k) : EReal) * sw (ix2 k h)) + z) (if_neg (inRange_unnamed _ hw))).trans ?_
  rw [add_zero]

end Result

end Cert.Ref

end
-- ==== Proof.Equation.lean ====
/- The equation: where every entry of the tokens and of the router is finite, what each device writes is its rows of what the
   reference returns. Both sides are read at a row and a column; the sixteen terms of the kernel, in whatever order a device adds
   them, are the sixteen experts, and all but the chosen one are zero. -/
module

public import proofs.«01_k».proof.Proof.KernelValue
public import proofs.«01_k».proof.Proof.RefValue
public import proofs.«01_k».proof.Proof.Body
public import Idealize.ShloMosaic.Lib.Layout

@[expose] public section

noncomputable section

namespace Cert.RingRun

open Cert.KernelIdeal Cert.KernelIdeal.Gen Cert.Reals Idealize.ShloMosaic Idealize.ShloMosaic.TcCoe Idealize.ShloMosaic.ValueIdx Idealize.SL.Sem

/-! ## The result's array -/

/-- After the run the array of results holds what the device writes. -/
theorem result_kept {F : FTy → Type} [FloatOps F] (m : (ℓ : Loc nD τ sig) → Buf (Elt F) ℓ) (ρ : Dev nD → PrngReg) (c : Dev nD) :
    (dats m ρ 0 c).arrAt (1 : Fin 2) cfg0.N = outC m ρ c := by
  have hz : (fun a => (win0_1.index (0 : Fin 1)) a * main_v1.ty.shape.size a) = fun _ => 0 := funext fun a => by fin_cases a <;> decide
  have hr := fun f => Memref.read_access_unit_zero (Elt F) main_v1 hz (fun a => by fin_cases a <;> decide) f
  have ho : (win0_1.blk (0 : Fin 1)).view.read (Elt F) ((dats m ρ 0 c).arrAt (1 : Fin 2) cfg0.N) = outC m ρ c := by
    rw [show cfg0.N = ((0 : Fin 1) : Fin cfg0.N).val + 1 from rfl, (dats m ρ 0 c).arrAt_succ (1 : Fin 2) (0 : Fin 1),
      if_pos (show (cfg0.win (1 : Fin 2)).flush (0 : Fin 1) = true from by decide)]
    exact View.read_write_univ _ _
  exact (hr _).symm.trans ho

/-! ## Finite inputs -/

/-- A number whose magnitude is below infinity is a real. -/
theorem real_of_word (a : EReal) (h : Ideal.cmp .olt (max a (-a)) (Ideal.ofBits .f32 0x7F800000#32) = 1#1) : ∃ r : ℝ, a = r := by
  have ht : Ideal.ofBits .f32 0x7F800000#32 = (⊤ : EReal) := by simp [Ideal.ofBits, Ideal.ieee]
  rw [ht] at h
  have hlt : max a (-a) < ⊤ := by
    by_contra hn
    have : Ideal.cmp .olt (max a (-a)) (⊤ : EReal) = BitVec.ofBool (decide (max a (-a) < ⊤)) := rfl
    rw [this, decide_eq_false hn] at h
    exact absurd h (by decide)
  obtain ⟨h1, h2⟩ := max_lt_iff.mp hlt
  induction a with
  | bot => simp at h2
  | top => simp at h1
  | coe r => exact ⟨r, rfl⟩

/-! ## The order of the experts -/

/-- The number of device `d`'s expert `j` among all. -/
def place (d : Dev nD) (j : Fin 4) : Fin 16 := ⟨4 * d.val + j.val, by have hd : d.val < 4 := d.isLt; omega⟩

/-- In the order in which device `c` adds them, the experts' terms are all sixteen. -/
theorem ring_sum (a : EReal) (T : Fin 16 → EReal) (c : Dev nD) :
    a + T (place c 0) + T (place c 1) + T (place c 2) + T (place c 3)
      + T (place (rgt c) 0) + T (place (rgt c) 1) + T (place (lft c) 2) + T (place (lft c) 3)
      + T (place (rgt c) 2) + T (place (rgt c) 3) + T (place (lft c) 0) + T (place (lft c) 1)
      + T (place (opp c) 0) + T (place (opp c) 1) + T (place (opp c) 2) + T (place (opp c) 3) = a + ∑ g, T g := by
  have hs : ∑ g, T g = T 0 + (T 1 + (T 2 + (T 3 + (T 4 + (T 5 + (T 6 + (T 7 + (T 8 + (T 9 + (T 10 + (T 11 + (T 12 + (T 13 + (T 14 + T 15)))))))))))))) := by
    simp only [Fin.sum_univ_succ, Fin.sum_univ_zero, add_zero]; rfl
  rw [hs]
  fin_cases c <;> simp [place, rgt, lft, opp] <;> abel

/-! ## The devices' blocks of the whole arrays -/

/-- Row `r` of device `c` among all tokens. -/
def rowOf (c : Dev nD) (r : Fin 1024) : Fin 4096 := ⟨c.val * 1024 + r.val, by have hc : c.val < 4 := c.isLt; omega⟩

/-- A device's rows of an array of tokens. -/
theorem block_at {α : Type} {n : ℕ} (v : (⟨2, ![4096, n]⟩ : Shape).Idx → α) (ht : Layout.Tiles ⟨2, ![1024, n]⟩ ⟨2, ![4096, n]⟩ 0 4) (c : Dev nD) (r : Fin 1024) (h : Fin n) :
    Layout.block ⟨2, ![1024, n]⟩ ⟨2, ![4096, n]⟩ 0 4 c v ht (ix2 r h) = v (ix2 (rowOf c r) h) :=
  congrArg v (funext fun a => Fin.ext (match a with | ⟨0, _⟩ => rfl | ⟨1, _⟩ => rfl))

/-- A device's experts among all. -/
theorem experts_at {α : Type} (v : (⟨3, ![16, 256, 512]⟩ : Shape).Idx → α) (ht : Layout.Tiles ⟨3, ![4, 256, 512]⟩ ⟨3, ![16, 256, 512]⟩ 0 4)
    (d : Dev nD) (j : Fin 4) (k : Fin 256) (h : Fin 512) :
    Layout.block ⟨3, ![4, 256, 512]⟩ ⟨3, ![16, 256, 512]⟩ 0 4 d v ht (ix3 j k h) = v (ix3 (place d j) k h) :=
  congrArg v (funext fun a => Fin.ext (match a with
    | ⟨0, _⟩ => show d.val * 4 + j.val = 4 * d.val + j.val by omega
    | ⟨1, _⟩ => rfl
    | ⟨2, _⟩ => rfl))

/-! ## The equation -/

section Equation
variable (m : (ℓ : Loc nD τ sig) → Buf (Elt Ideal) ℓ) (ρ : Dev nD → PrngReg)
  (x : FVec Ideal ⟨2, ![4096, 256]⟩ .f32) (rw' : FVec Ideal ⟨2, ![256, 16]⟩ .f32) (ix : IVec ⟨2, ![4096, 1]⟩ 32)
  (W : FVec Ideal ⟨3, ![16, 256, 512]⟩ .f32) (sw : FVec Ideal ⟨2, ![256, 512]⟩ .f32)
  (hx : ∀ c r k, xC m c (ix2 r k) = x (ix2 (rowOf c r) k))
  (hr : ∀ c, rwC m c = rw')
  (hi : ∀ c r, ixC m c (ix2 r 0) = ix (ix2 (rowOf c r) 0))
  (hW : ∀ d j k h, wC m d j k h = W (ix3 (place d j) k h))
  (hs : ∀ c, swC m c = sw)
  (fx : ∀ c r k, ∃ q : ℝ, (xC m c (ix2 r k) : EReal) = q)
  (fr : ∀ c k e, ∃ q : ℝ, (rwC m c (ix2 k e) : EReal) = q)
include hx hr hi hW hs fx fr

/-- What device `c` writes at a row and a column is what the reference returns there. -/
theorem out_eq (c : Dev nD) (r : Fin 1024) (h : Fin 512) :
    (outC m ρ c (ix2 r h) : EReal) = Cert.Ref.result x rw' ix W sw (ix2 (rowOf c r) h) := by
  -- the token's scores are the reference's, and finite
  have hsc : scores m c r = Cert.Ref.scoresAt x rw' (rowOf c r) := funext fun e => by
    unfold scores Cert.Ref.scoresAt
    rw [hr]
    exact Finset.sum_congr rfl fun k _ => by rw [hx]
  have hfin : ∀ e, ∃ q : ℝ, scores m c r e = q := fun e => dot_real _ _ (fun k => fx c r k) (fun k => fr c k e)
  -- the terms are those of the sixteen experts
  have hT : ∀ d j, addend m c r h d j = (if ix (ix2 (rowOf c r) 0) = BitVec.ofNat 32 (place d j).val then chosen m c r else 0)
      * ∑ k : Fin 256, (x (ix2 (rowOf c r) k) : EReal) * W (ix3 (place d j) k h) := fun d j => by
    unfold addend
    rw [hi]
    exact congrArg _ (Finset.sum_congr rfl fun k _ => by rw [hx, hW])
  have hshared : ∑ k : Fin 256, (xC m c (ix2 r k) : EReal) * swC m c (ix2 k h) = ∑ k : Fin 256, (x (ix2 (rowOf c r) k) : EReal) * sw (ix2 k h) := by
    rw [hs]
    exact Finset.sum_congr rfl fun k _ => by rw [hx]
  have hsum : ∀ q : ℝ, 0 ≤ q → chosen m c r = q → (outC m ρ c (ix2 r h) : EReal)
      = (∑ k : Fin 256, (x (ix2 (rowOf c r) k) : EReal) * sw (ix2 k h))
        + ∑ g : Fin 16, (if ix (ix2 (rowOf c r) 0) = BitVec.ofNat 32 g.val then chosen m c r else 0)
          * ∑ k : Fin 256, (x (ix2 (rowOf c r) k) : EReal) * W (ix3 g k h) := fun q hq hp => by
    rw [out_at m ρ c r h q hq hp, hshared]
    simp only [hT]
    exact ring_sum _ (fun g => (if ix (ix2 (rowOf c r) 0) = BitVec.ofNat 32 g.val then chosen m c r else 0)
      * ∑ k : Fin 256, (x (ix2 (rowOf c r) k) : EReal) * W (ix3 g k h)) c
  have hch := chosen_eq m c r
  by_cases hn : ∃ g : Fin 16, ix (ix2 (rowOf c r) 0) = BitVec.ofNat 32 g.val
  · obtain ⟨g, hg⟩ := hn
    rw [pick_named _ _ g ((hi c r).trans hg)] at hch
    obtain ⟨q, hq, hp⟩ := soft_real _ hfin g
    rw [hsum q hq (hch.trans hp), sum_named _ _ _ g hg, Cert.Ref.result_named x rw' ix W sw _ h g hg, hch, hsc]
  · have hn' : ∀ g : Fin 16, ix (ix2 (rowOf c r) 0) ≠ BitVec.ofNat 32 g.val := fun g e => hn ⟨g, e⟩
    rw [pick_unnamed _ _ fun g e => hn' g ((hi c r).symm.trans e)] at hch
    rw [hsum 0 le_rfl hch, sum_unnamed _ _ _ hn', Cert.Ref.result_unnamed x rw' ix W sw _ h hn', add_zero]

end Equation

end Cert.RingRun

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_router_inputs_finite_KernelIdeal
public import proofs.«01_k».proof.Proof.Gen.Pre_router_inputs_finite_ReferenceIdeal
public import proofs.«01_k».proof.Proof.Launch
public import proofs.«01_k».proof.Proof.Equation
public import Idealize.ShloMosaic.Adequacy
public import Idealize.ShloMosaic.Init

@[expose] public section

noncomputable section

namespace Cert.Proof

open Idealize.ShloMosaic Idealize.SL.Sem Cert.Kernel

/-- What a run's end says of the arguments of every device: they are unchanged. -/
theorem ends_args {F : FTy → Type} [FloatOps F] (m : (ℓ : Loc Cert.KernelIdeal.nD Cert.KernelIdeal.τ Cert.KernelIdeal.sig) → Buf (Elt F) ℓ) (g : Dev Cert.KernelIdeal.nD → PrngReg)
    (r : PUnit × MemSt Cert.KernelIdeal.nD Cert.KernelIdeal.τ Cert.KernelIdeal.sig (Elt F)) (h : Cert.RingRun.Ends m g r) (c : Dev Cert.KernelIdeal.nD) :
    r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4) :=
  ⟨(h.1 c).2 _ (by decide), (h.1 c).2 _ (by decide), (h.1 c).2 _ (by decide), ((h.1 c).1 0).trans (Cert.RingRun.experts_kept m g c), (h.1 c).2 _ (by decide)⟩

/-- For any reading of floats the kernel keeps its arguments and leaves every semaphore at zero. -/
theorem kept {F : FTy → Type} [FloatOps F] (m : (ℓ : Loc Cert.KernelIdeal.nD Cert.KernelIdeal.τ Cert.KernelIdeal.sig) → Buf (Elt F) ℓ) (g : Dev Cert.KernelIdeal.nD → PrngReg) :
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  (θ_run _ _ _).mono (fun r h => ⟨ends_args m g r h, h.2⟩) (Cert.RingRun.run_main m g)

/-- The two printed programs have the same body label. -/
theorem bodies_same : Cert.KernelIdeal.defs₀ (F := Bits) = Cert.Kernel.defs₀ (F := Bits) :=
  congrArg (Defs.onTc (nD := 4)) (funext fun a => match a with | 0 => rfl)

/-- The two printed programs have the same procedures. -/
theorem defs_same : Cert.KernelIdeal.defs (F := Bits) = Cert.Kernel.defs (F := Bits) := congrArg (Pipeline.defs _) bodies_same

/-- The kernel as printed. -/
theorem frame_kernel : Cert.quiescent_Kernel := fun m g _ => by
  rw [← defs_same]
  exact kept (F := Bits) m g

/-- The kernel over the reals. -/
theorem frame_ideal : Cert.quiescent_KernelIdeal := fun m g _ => kept (F := Ideal) m g

/-- The reference, which runs on one device and has no semaphore that it could leave raised. -/
theorem frame_reference : Cert.quiescent_ReferenceIdeal := fun m g _ =>
  (θ_run _ _ _).mono (fun _ h => ⟨fun c => (h c).2, funext fun g => nomatch g.2⟩) (Cert.ReferenceIdeal.Value.run (F := Ideal) m g)

/-- Over the reals, and where every entry of the tokens and of the router is finite, each device ends with its rows of what the
    reference returns. -/
theorem algebraic : Cert.algebraic_KernelIdeal_ReferenceIdeal_pre_router_inputs_finite_KernelIdeal := by
  intro m g m' g' hpre hagree
  refine ⟨_, (θ_run _ _ _).mono (fun r h c => ⟨?_, Cert.Proof.ends_args m g r h c⟩) (Cert.RingRun.run_main (F := Ideal) m g),
    (θ_run _ _ _).mono (fun r h => h 0) (Cert.ReferenceIdeal.Value.run (F := Ideal) m' g')⟩
  refine ((h.1 c).1 1).trans ((Cert.RingRun.result_kept m g c).trans (funext fun i => ?_))
  rw [ValueIdx.eq_ix2 i]
  refine (Cert.RingRun.out_eq m g _ _ _ _ _
    (fun c r k => (congrFun (hagree c).1 _).trans (Cert.RingRun.block_at _ _ c r k))
    (fun c => (hagree c).2.1)
    (fun c r => (congrFun (hagree c).2.2.1 _).trans (Cert.RingRun.block_at _ _ c r 0))
    (fun d j k h => (congrFun (hagree d).2.2.2.1 _).trans (Cert.RingRun.experts_at _ _ d j k h))
    (fun c => (hagree c).2.2.2.2)
    (fun c r k => Cert.RingRun.real_of_word _ (congrFun (hpre c).1 (ValueIdx.ix2 r k)))
    (fun c k e => Cert.RingRun.real_of_word _ (congrFun (hpre c).2 (ValueIdx.ix2 k e))) c (i 0) (i 1)).trans ?_
  exact (Cert.RingRun.block_at _ _ c (i 0) (i 1)).symm

theorem claim : Cert.Claim := ⟨Cert.Kernel.Gen.facts, Cert.KernelIdeal.Gen.facts, Cert.ReferenceIdeal.Gen.facts, Cert.Pre_router_inputs_finite_KernelIdeal.Gen.facts, Cert.Pre_router_inputs_finite_ReferenceIdeal.Gen.facts,
  frame_kernel, frame_ideal, fun m g _ => frame_ideal m g trivial, frame_reference, fun m g _ => frame_reference m g trivial, trivial, algebraic⟩

end Cert.Proof

end
